-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 16384, 2048]⟩ ⟨3, ![2, 16384, 2048]⟩ (Layout.meshBlock [2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.blockN ⟨2, ![16384, 1024]⟩ ⟨2, ![16384, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16384x2048 : Shape := ⟨3, ![1, 16384, 2048]⟩
abbrev S16384x1024 : Shape := ⟨2, ![16384, 1024]⟩
abbrev S8192x1024 : Shape := ⟨2, ![8192, 1024]⟩
abbrev S32 : Shape := ⟨1, ![32]⟩
abbrev S_ : Shape := ⟨0, ![]⟩
abbrev S2 : Shape := ⟨1, ![2]⟩
abbrev S256x1024 : Shape := ⟨2, ![256, 1024]⟩
abbrev S2x256x1024 : Shape := ⟨3, ![2, 256, 1024]⟩
abbrev S1 : Shape := ⟨1, ![1]⟩
abbrev S1x256x1024 : Shape := ⟨3, ![1, 256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1x16384x2048, .f32⟩
  | .hbm, ⟨1, _⟩ => ⟨S16384x1024, .f32⟩
  | .hbm, ⟨2, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S2x256x1024, .f32⟩
  | _, _ => ⟨S1x16384x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 2 → Bool
  | ⟨0, _⟩ => false
  | ⟨1, _⟩ => true
  | _ => false

abbrev dmaSemScoped : Fin 132 → Bool
  | ⟨i, _⟩ => dmaSemScopedAt i

abbrev sig : RefSig :=
  (ofTc nBuf bufTy 2 132 bufScoped semScoped dmaSemScoped tileCredit tileCredit_eq_zero tileCredit_pos).withBarriers [(0, 0)]

abbrev main_arg0 : Ref sig .tc := ⟨.hbm, 0, rfl⟩
abbrev main_v1_0 : Ref sig .tc := ⟨.hbm, 1, rfl⟩
abbrev main_v1_1 : Ref sig .tc := ⟨.hbm, 2, rfl⟩
abbrev cc0_scratch7 : Ref sig .tc := ⟨.vmem, 0, rfl⟩
abbrev cc0_scratch8 : Ref sig .tc := ⟨.vmem, 1, rfl⟩
abbrev cc0_scratch9 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_9 : BitVec 32 := 2#32
  let v15 : BitVec 32 := Scalar.muli v2 c2_i32_9
  let v16 : BitVec 32 := Scalar.addi c0_i32 v15
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_10 : BitVec 32 := 1#32
  let v17 : BitVec 32 := Scalar.muli v6 c1_i32_10
  let v18 : BitVec 32 := Scalar.addi v16 v17
  v18.toNat
def k0_dev2 (d0 : Dev nD) : Nat :=
  let c0_i32_13 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_12 : BitVec 32 := 2#32
  let v19 : BitVec 32 := Scalar.muli v7 c2_i32_12
  let v20 : BitVec 32 := Scalar.addi c0_i32_13 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_14 : BitVec 32 := 1#32
  let v21 : BitVec 32 := Scalar.muli v5 c1_i32_14
  let v22 : BitVec 32 := Scalar.addi v20 v21
  v22.toNat
def k0_off1 (d0 : Dev nD) (c0_i32_16 : BitVec 32) : Fin 3 → Nat :=
  let c0_i32_17 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v8 : BitVec 32 := Scalar.muli v2 c8192_i32
  let v23 : BitVec 32 := Scalar.addi v8 c0_i32_16
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c1024_i32_7 : BitVec 32 := 1024#32
  let v13 : BitVec 32 := Scalar.muli v12 c1024_i32_7
  ![0, v23.toNat, v13.toNat]
def k0_dev3 (d0 : Dev nD) : Nat :=
  let c0_i32_21 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_20 : BitVec 32 := 2#32
  let v24 : BitVec 32 := Scalar.muli v2 c2_i32_20
  let v25 : BitVec 32 := Scalar.addi c0_i32_21 v24
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_22 : BitVec 32 := 1#32
  let v26 : BitVec 32 := Scalar.muli v6 c1_i32_22
  let v27 : BitVec 32 := Scalar.addi v25 v26
  v27.toNat
def k0_dev4 (d0 : Dev nD) : Nat :=
  let c0_i32_29 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_28 : BitVec 32 := 2#32
  let v36 : BitVec 32 := Scalar.muli v2 c2_i32_28
  let v37 : BitVec 32 := Scalar.addi c0_i32_29 v36
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_30 : BitVec 32 := 1#32
  let v38 : BitVec 32 := Scalar.muli v6 c1_i32_30
  let v39 : BitVec 32 := Scalar.addi v37 v38
  v39.toNat
def k0_dev5 (d0 : Dev nD) : Nat :=
  let c0_i32_37 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_36 : BitVec 32 := 2#32
  let v48 : BitVec 32 := Scalar.muli v2 c2_i32_36
  let v49 : BitVec 32 := Scalar.addi c0_i32_37 v48
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_38 : BitVec 32 := 1#32
  let v50 : BitVec 32 := Scalar.muli v6 c1_i32_38
  let v51 : BitVec 32 := Scalar.addi v49 v50
  v51.toNat
def k0_dev6 (d0 : Dev nD) : Nat :=
  let c0_i32_44 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_43 : BitVec 32 := 2#32
  let v60 : BitVec 32 := Scalar.muli v2 c2_i32_43
  let v61 : BitVec 32 := Scalar.addi c0_i32_44 v60
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_45 : BitVec 32 := 1#32
  let v62 : BitVec 32 := Scalar.muli v6 c1_i32_45
  let v63 : BitVec 32 := Scalar.addi v61 v62
  v63.toNat
def k0_dev7 (d0 : Dev nD) : Nat :=
  let c0_i32_52 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_51 : BitVec 32 := 2#32
  let v72 : BitVec 32 := Scalar.muli v2 c2_i32_51
  let v73 : BitVec 32 := Scalar.addi c0_i32_52 v72
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_53 : BitVec 32 := 1#32
  let v74 : BitVec 32 := Scalar.muli v6 c1_i32_53
  let v75 : BitVec 32 := Scalar.addi v73 v74
  v75.toNat
def k0_dev8 (d0 : Dev nD) : Nat :=
  let c0_i32_59 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_58 : BitVec 32 := 2#32
  let v84 : BitVec 32 := Scalar.muli v2 c2_i32_58
  let v85 : BitVec 32 := Scalar.addi c0_i32_59 v84
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_60 : BitVec 32 := 1#32
  let v86 : BitVec 32 := Scalar.muli v6 c1_i32_60
  let v87 : BitVec 32 := Scalar.addi v85 v86
  v87.toNat
def k0_dev9 (d0 : Dev nD) : Nat :=
  let c0_i32_66 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_65 : BitVec 32 := 2#32
  let v96 : BitVec 32 := Scalar.muli v2 c2_i32_65
  let v97 : BitVec 32 := Scalar.addi c0_i32_66 v96
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_67 : BitVec 32 := 1#32
  let v98 : BitVec 32 := Scalar.muli v6 c1_i32_67
  let v99 : BitVec 32 := Scalar.addi v97 v98
  v99.toNat
def k0_dev10 (d0 : Dev nD) : Nat :=
  let c0_i32_73 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_72 : BitVec 32 := 2#32
  let v108 : BitVec 32 := Scalar.muli v2 c2_i32_72
  let v109 : BitVec 32 := Scalar.addi c0_i32_73 v108
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_74 : BitVec 32 := 1#32
  let v110 : BitVec 32 := Scalar.muli v6 c1_i32_74
  let v111 : BitVec 32 := Scalar.addi v109 v110
  v111.toNat
def k0_dev11 (d0 : Dev nD) : Nat :=
  let c0_i32_80 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_79 : BitVec 32 := 2#32
  let v120 : BitVec 32 := Scalar.muli v2 c2_i32_79
  let v121 : BitVec 32 := Scalar.addi c0_i32_80 v120
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_81 : BitVec 32 := 1#32
  let v122 : BitVec 32 := Scalar.muli v6 c1_i32_81
  let v123 : BitVec 32 := Scalar.addi v121 v122
  v123.toNat
def k0_dev12 (d0 : Dev nD) : Nat :=
  let c0_i32_87 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_86 : BitVec 32 := 2#32
  let v132 : BitVec 32 := Scalar.muli v2 c2_i32_86
  let v133 : BitVec 32 := Scalar.addi c0_i32_87 v132
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_88 : BitVec 32 := 1#32
  let v134 : BitVec 32 := Scalar.muli v6 c1_i32_88
  let v135 : BitVec 32 := Scalar.addi v133 v134
  v135.toNat
def k0_dev13 (d0 : Dev nD) : Nat :=
  let c0_i32_94 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_93 : BitVec 32 := 2#32
  let v144 : BitVec 32 := Scalar.muli v2 c2_i32_93
  let v145 : BitVec 32 := Scalar.addi c0_i32_94 v144
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_95 : BitVec 32 := 1#32
  let v146 : BitVec 32 := Scalar.muli v6 c1_i32_95
  let v147 : BitVec 32 := Scalar.addi v145 v146
  v147.toNat
def k0_dev14 (d0 : Dev nD) : Nat :=
  let c0_i32_101 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_100 : BitVec 32 := 2#32
  let v156 : BitVec 32 := Scalar.muli v2 c2_i32_100
  let v157 : BitVec 32 := Scalar.addi c0_i32_101 v156
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_102 : BitVec 32 := 1#32
  let v158 : BitVec 32 := Scalar.muli v6 c1_i32_102
  let v159 : BitVec 32 := Scalar.addi v157 v158
  v159.toNat
def k0_dev15 (d0 : Dev nD) : Nat :=
  let c0_i32_108 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_107 : BitVec 32 := 2#32
  let v168 : BitVec 32 := Scalar.muli v2 c2_i32_107
  let v169 : BitVec 32 := Scalar.addi c0_i32_108 v168
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_109 : BitVec 32 := 1#32
  let v170 : BitVec 32 := Scalar.muli v6 c1_i32_109
  let v171 : BitVec 32 := Scalar.addi v169 v170
  v171.toNat
def k0_dev16 (d0 : Dev nD) : Nat :=
  let c0_i32_115 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_114 : BitVec 32 := 2#32
  let v180 : BitVec 32 := Scalar.muli v2 c2_i32_114
  let v181 : BitVec 32 := Scalar.addi c0_i32_115 v180
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_116 : BitVec 32 := 1#32
  let v182 : BitVec 32 := Scalar.muli v6 c1_i32_116
  let v183 : BitVec 32 := Scalar.addi v181 v182
  v183.toNat
def k0_dev17 (d0 : Dev nD) : Nat :=
  let c0_i32_122 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_121 : BitVec 32 := 2#32
  let v192 : BitVec 32 := Scalar.muli v2 c2_i32_121
  let v193 : BitVec 32 := Scalar.addi c0_i32_122 v192
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_123 : BitVec 32 := 1#32
  let v194 : BitVec 32 := Scalar.muli v6 c1_i32_123
  let v195 : BitVec 32 := Scalar.addi v193 v194
  v195.toNat
def k0_dev18 (d0 : Dev nD) : Nat :=
  let c0_i32_129 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_128 : BitVec 32 := 2#32
  let v204 : BitVec 32 := Scalar.muli v2 c2_i32_128
  let v205 : BitVec 32 := Scalar.addi c0_i32_129 v204
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_130 : BitVec 32 := 1#32
  let v206 : BitVec 32 := Scalar.muli v6 c1_i32_130
  let v207 : BitVec 32 := Scalar.addi v205 v206
  v207.toNat
def k0_dev19 (d0 : Dev nD) : Nat :=
  let c0_i32_136 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_135 : BitVec 32 := 2#32
  let v216 : BitVec 32 := Scalar.muli v2 c2_i32_135
  let v217 : BitVec 32 := Scalar.addi c0_i32_136 v216
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_137 : BitVec 32 := 1#32
  let v218 : BitVec 32 := Scalar.muli v6 c1_i32_137
  let v219 : BitVec 32 := Scalar.addi v217 v218
  v219.toNat
def k0_dev20 (d0 : Dev nD) : Nat :=
  let c0_i32_143 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_142 : BitVec 32 := 2#32
  let v228 : BitVec 32 := Scalar.muli v2 c2_i32_142
  let v229 : BitVec 32 := Scalar.addi c0_i32_143 v228
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_144 : BitVec 32 := 1#32
  let v230 : BitVec 32 := Scalar.muli v6 c1_i32_144
  let v231 : BitVec 32 := Scalar.addi v229 v230
  v231.toNat
def k0_dev21 (d0 : Dev nD) : Nat :=
  let c0_i32_150 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_149 : BitVec 32 := 2#32
  let v240 : BitVec 32 := Scalar.muli v2 c2_i32_149
  let v241 : BitVec 32 := Scalar.addi c0_i32_150 v240
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_151 : BitVec 32 := 1#32
  let v242 : BitVec 32 := Scalar.muli v6 c1_i32_151
  let v243 : BitVec 32 := Scalar.addi v241 v242
  v243.toNat
def k0_dev22 (d0 : Dev nD) : Nat :=
  let c0_i32_157 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_156 : BitVec 32 := 2#32
  let v252 : BitVec 32 := Scalar.muli v2 c2_i32_156
  let v253 : BitVec 32 := Scalar.addi c0_i32_157 v252
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_158 : BitVec 32 := 1#32
  let v254 : BitVec 32 := Scalar.muli v6 c1_i32_158
  let v255 : BitVec 32 := Scalar.addi v253 v254
  v255.toNat
def k0_dev23 (d0 : Dev nD) : Nat :=
  let c0_i32_164 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_163 : BitVec 32 := 2#32
  let v264 : BitVec 32 := Scalar.muli v2 c2_i32_163
  let v265 : BitVec 32 := Scalar.addi c0_i32_164 v264
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_165 : BitVec 32 := 1#32
  let v266 : BitVec 32 := Scalar.muli v6 c1_i32_165
  let v267 : BitVec 32 := Scalar.addi v265 v266
  v267.toNat
def k0_dev24 (d0 : Dev nD) : Nat :=
  let c0_i32_171 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_170 : BitVec 32 := 2#32
  let v276 : BitVec 32 := Scalar.muli v2 c2_i32_170
  let v277 : BitVec 32 := Scalar.addi c0_i32_171 v276
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_172 : BitVec 32 := 1#32
  let v278 : BitVec 32 := Scalar.muli v6 c1_i32_172
  let v279 : BitVec 32 := Scalar.addi v277 v278
  v279.toNat
def k0_dev25 (d0 : Dev nD) : Nat :=
  let c0_i32_178 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_177 : BitVec 32 := 2#32
  let v288 : BitVec 32 := Scalar.muli v2 c2_i32_177
  let v289 : BitVec 32 := Scalar.addi c0_i32_178 v288
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_179 : BitVec 32 := 1#32
  let v290 : BitVec 32 := Scalar.muli v6 c1_i32_179
  let v291 : BitVec 32 := Scalar.addi v289 v290
  v291.toNat
def k0_dev26 (d0 : Dev nD) : Nat :=
  let c0_i32_185 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_184 : BitVec 32 := 2#32
  let v300 : BitVec 32 := Scalar.muli v2 c2_i32_184
  let v301 : BitVec 32 := Scalar.addi c0_i32_185 v300
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_186 : BitVec 32 := 1#32
  let v302 : BitVec 32 := Scalar.muli v6 c1_i32_186
  let v303 : BitVec 32 := Scalar.addi v301 v302
  v303.toNat
def k0_dev27 (d0 : Dev nD) : Nat :=
  let c0_i32_192 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_191 : BitVec 32 := 2#32
  let v312 : BitVec 32 := Scalar.muli v2 c2_i32_191
  let v313 : BitVec 32 := Scalar.addi c0_i32_192 v312
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_193 : BitVec 32 := 1#32
  let v314 : BitVec 32 := Scalar.muli v6 c1_i32_193
  let v315 : BitVec 32 := Scalar.addi v313 v314
  v315.toNat
def k0_dev28 (d0 : Dev nD) : Nat :=
  let c0_i32_199 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_198 : BitVec 32 := 2#32
  let v324 : BitVec 32 := Scalar.muli v2 c2_i32_198
  let v325 : BitVec 32 := Scalar.addi c0_i32_199 v324
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_200 : BitVec 32 := 1#32
  let v326 : BitVec 32 := Scalar.muli v6 c1_i32_200
  let v327 : BitVec 32 := Scalar.addi v325 v326
  v327.toNat
def k0_dev29 (d0 : Dev nD) : Nat :=
  let c0_i32_206 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_205 : BitVec 32 := 2#32
  let v336 : BitVec 32 := Scalar.muli v2 c2_i32_205
  let v337 : BitVec 32 := Scalar.addi c0_i32_206 v336
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_207 : BitVec 32 := 1#32
  let v338 : BitVec 32 := Scalar.muli v6 c1_i32_207
  let v339 : BitVec 32 := Scalar.addi v337 v338
  v339.toNat
def k0_dev30 (d0 : Dev nD) : Nat :=
  let c0_i32_213 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_212 : BitVec 32 := 2#32
  let v348 : BitVec 32 := Scalar.muli v2 c2_i32_212
  let v349 : BitVec 32 := Scalar.addi c0_i32_213 v348
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_214 : BitVec 32 := 1#32
  let v350 : BitVec 32 := Scalar.muli v6 c1_i32_214
  let v351 : BitVec 32 := Scalar.addi v349 v350
  v351.toNat
def k0_dev31 (d0 : Dev nD) : Nat :=
  let c0_i32_220 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_219 : BitVec 32 := 2#32
  let v360 : BitVec 32 := Scalar.muli v2 c2_i32_219
  let v361 : BitVec 32 := Scalar.addi c0_i32_220 v360
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_221 : BitVec 32 := 1#32
  let v362 : BitVec 32 := Scalar.muli v6 c1_i32_221
  let v363 : BitVec 32 := Scalar.addi v361 v362
  v363.toNat
def k0_dev32 (d0 : Dev nD) : Nat :=
  let c0_i32_227 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_226 : BitVec 32 := 2#32
  let v372 : BitVec 32 := Scalar.muli v2 c2_i32_226
  let v373 : BitVec 32 := Scalar.addi c0_i32_227 v372
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_228 : BitVec 32 := 1#32
  let v374 : BitVec 32 := Scalar.muli v6 c1_i32_228
  let v375 : BitVec 32 := Scalar.addi v373 v374
  v375.toNat
def k0_dev33 (d0 : Dev nD) : Nat :=
  let c0_i32_234 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_233 : BitVec 32 := 2#32
  let v384 : BitVec 32 := Scalar.muli v2 c2_i32_233
  let v385 : BitVec 32 := Scalar.addi c0_i32_234 v384
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_235 : BitVec 32 := 1#32
  let v386 : BitVec 32 := Scalar.muli v6 c1_i32_235
  let v387 : BitVec 32 := Scalar.addi v385 v386
  v387.toNat
def k0_dev34 (d0 : Dev nD) : Nat :=
  let c0_i32_241 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_240 : BitVec 32 := 2#32
  let v396 : BitVec 32 := Scalar.muli v2 c2_i32_240
  let v397 : BitVec 32 := Scalar.addi c0_i32_241 v396
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_242 : BitVec 32 := 1#32
  let v398 : BitVec 32 := Scalar.muli v6 c1_i32_242
  let v399 : BitVec 32 := Scalar.addi v397 v398
  v399.toNat
def k0_off2 (d0 : Dev nD) (c0_i32_245 : BitVec 32) : Fin 3 → Nat :=
  let c0_i32_246 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v8 : BitVec 32 := Scalar.muli v2 c8192_i32
  let v407 : BitVec 32 := Scalar.addi v8 c0_i32_245
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v11 : BitVec 32 := Scalar.muli v5 c1024_i32
  ![0, v407.toNat, v11.toNat]
def k0_off3 (d0 : Dev nD) (c0_i32_266 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v8 : BitVec 32 := Scalar.muli v2 c8192_i32
  let v429 : BitVec 32 := Scalar.addi v8 c0_i32_266
  let c0_i32_273 : BitVec 32 := 0#32
  ![v429.toNat, 0]
def k0_dev35 (d0 : Dev nD) : Nat :=
  let c0_i32_271 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_270 : BitVec 32 := 2#32
  let v430 : BitVec 32 := Scalar.muli v7 c2_i32_270
  let v431 : BitVec 32 := Scalar.addi c0_i32_271 v430
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_272 : BitVec 32 := 1#32
  let v432 : BitVec 32 := Scalar.muli v5 c1_i32_272
  let v433 : BitVec 32 := Scalar.addi v431 v432
  v433.toNat
def k0_dev36 (d0 : Dev nD) : Nat :=
  let c0_i32_308 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_307 : BitVec 32 := 2#32
  let v470 : BitVec 32 := Scalar.muli v7 c2_i32_307
  let v471 : BitVec 32 := Scalar.addi c0_i32_308 v470
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_309 : BitVec 32 := 1#32
  let v472 : BitVec 32 := Scalar.muli v5 c1_i32_309
  let v473 : BitVec 32 := Scalar.addi v471 v472
  v473.toNat
def k0_dev37 (d0 : Dev nD) : Nat :=
  let c0_i32_358 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_357 : BitVec 32 := 2#32
  let v520 : BitVec 32 := Scalar.muli v7 c2_i32_357
  let v521 : BitVec 32 := Scalar.addi c0_i32_358 v520
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_359 : BitVec 32 := 1#32
  let v522 : BitVec 32 := Scalar.muli v5 c1_i32_359
  let v523 : BitVec 32 := Scalar.addi v521 v522
  v523.toNat
def k0_dev38 (d0 : Dev nD) : Nat :=
  let c0_i32_408 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_407 : BitVec 32 := 2#32
  let v570 : BitVec 32 := Scalar.muli v7 c2_i32_407
  let v571 : BitVec 32 := Scalar.addi c0_i32_408 v570
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_409 : BitVec 32 := 1#32
  let v572 : BitVec 32 := Scalar.muli v5 c1_i32_409
  let v573 : BitVec 32 := Scalar.addi v571 v572
  v573.toNat
def k0_dev39 (d0 : Dev nD) : Nat :=
  let c0_i32_458 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_457 : BitVec 32 := 2#32
  let v620 : BitVec 32 := Scalar.muli v7 c2_i32_457
  let v621 : BitVec 32 := Scalar.addi c0_i32_458 v620
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_459 : BitVec 32 := 1#32
  let v622 : BitVec 32 := Scalar.muli v5 c1_i32_459
  let v623 : BitVec 32 := Scalar.addi v621 v622
  v623.toNat
def k0_dev40 (d0 : Dev nD) : Nat :=
  let c0_i32_508 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_507 : BitVec 32 := 2#32
  let v670 : BitVec 32 := Scalar.muli v7 c2_i32_507
  let v671 : BitVec 32 := Scalar.addi c0_i32_508 v670
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_509 : BitVec 32 := 1#32
  let v672 : BitVec 32 := Scalar.muli v5 c1_i32_509
  let v673 : BitVec 32 := Scalar.addi v671 v672
  v673.toNat
def k0_dev41 (d0 : Dev nD) : Nat :=
  let c0_i32_558 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_557 : BitVec 32 := 2#32
  let v720 : BitVec 32 := Scalar.muli v7 c2_i32_557
  let v721 : BitVec 32 := Scalar.addi c0_i32_558 v720
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_559 : BitVec 32 := 1#32
  let v722 : BitVec 32 := Scalar.muli v5 c1_i32_559
  let v723 : BitVec 32 := Scalar.addi v721 v722
  v723.toNat
def k0_dev42 (d0 : Dev nD) : Nat :=
  let c0_i32_608 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_607 : BitVec 32 := 2#32
  let v770 : BitVec 32 := Scalar.muli v7 c2_i32_607
  let v771 : BitVec 32 := Scalar.addi c0_i32_608 v770
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_609 : BitVec 32 := 1#32
  let v772 : BitVec 32 := Scalar.muli v5 c1_i32_609
  let v773 : BitVec 32 := Scalar.addi v771 v772
  v773.toNat
def k0_dev43 (d0 : Dev nD) : Nat :=
  let c0_i32_658 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_657 : BitVec 32 := 2#32
  let v820 : BitVec 32 := Scalar.muli v7 c2_i32_657
  let v821 : BitVec 32 := Scalar.addi c0_i32_658 v820
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_659 : BitVec 32 := 1#32
  let v822 : BitVec 32 := Scalar.muli v5 c1_i32_659
  let v823 : BitVec 32 := Scalar.addi v821 v822
  v823.toNat
def k0_dev44 (d0 : Dev nD) : Nat :=
  let c0_i32_708 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_707 : BitVec 32 := 2#32
  let v870 : BitVec 32 := Scalar.muli v7 c2_i32_707
  let v871 : BitVec 32 := Scalar.addi c0_i32_708 v870
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_709 : BitVec 32 := 1#32
  let v872 : BitVec 32 := Scalar.muli v5 c1_i32_709
  let v873 : BitVec 32 := Scalar.addi v871 v872
  v873.toNat
def k0_dev45 (d0 : Dev nD) : Nat :=
  let c0_i32_758 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_757 : BitVec 32 := 2#32
  let v920 : BitVec 32 := Scalar.muli v7 c2_i32_757
  let v921 : BitVec 32 := Scalar.addi c0_i32_758 v920
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_759 : BitVec 32 := 1#32
  let v922 : BitVec 32 := Scalar.muli v5 c1_i32_759
  let v923 : BitVec 32 := Scalar.addi v921 v922
  v923.toNat
def k0_dev46 (d0 : Dev nD) : Nat :=
  let c0_i32_808 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_807 : BitVec 32 := 2#32
  let v970 : BitVec 32 := Scalar.muli v7 c2_i32_807
  let v971 : BitVec 32 := Scalar.addi c0_i32_808 v970
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_809 : BitVec 32 := 1#32
  let v972 : BitVec 32 := Scalar.muli v5 c1_i32_809
  let v973 : BitVec 32 := Scalar.addi v971 v972
  v973.toNat
def k0_dev47 (d0 : Dev nD) : Nat :=
  let c0_i32_858 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_857 : BitVec 32 := 2#32
  let v1020 : BitVec 32 := Scalar.muli v7 c2_i32_857
  let v1021 : BitVec 32 := Scalar.addi c0_i32_858 v1020
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_859 : BitVec 32 := 1#32
  let v1022 : BitVec 32 := Scalar.muli v5 c1_i32_859
  let v1023 : BitVec 32 := Scalar.addi v1021 v1022
  v1023.toNat
def k0_dev48 (d0 : Dev nD) : Nat :=
  let c0_i32_908 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_907 : BitVec 32 := 2#32
  let v1070 : BitVec 32 := Scalar.muli v7 c2_i32_907
  let v1071 : BitVec 32 := Scalar.addi c0_i32_908 v1070
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_909 : BitVec 32 := 1#32
  let v1072 : BitVec 32 := Scalar.muli v5 c1_i32_909
  let v1073 : BitVec 32 := Scalar.addi v1071 v1072
  v1073.toNat
def k0_dev49 (d0 : Dev nD) : Nat :=
  let c0_i32_958 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_957 : BitVec 32 := 2#32
  let v1120 : BitVec 32 := Scalar.muli v7 c2_i32_957
  let v1121 : BitVec 32 := Scalar.addi c0_i32_958 v1120
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_959 : BitVec 32 := 1#32
  let v1122 : BitVec 32 := Scalar.muli v5 c1_i32_959
  let v1123 : BitVec 32 := Scalar.addi v1121 v1122
  v1123.toNat
def k0_dev50 (d0 : Dev nD) : Nat :=
  let c0_i32_1008 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1007 : BitVec 32 := 2#32
  let v1170 : BitVec 32 := Scalar.muli v7 c2_i32_1007
  let v1171 : BitVec 32 := Scalar.addi c0_i32_1008 v1170
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1009 : BitVec 32 := 1#32
  let v1172 : BitVec 32 := Scalar.muli v5 c1_i32_1009
  let v1173 : BitVec 32 := Scalar.addi v1171 v1172
  v1173.toNat
def k0_dev51 (d0 : Dev nD) : Nat :=
  let c0_i32_1058 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1057 : BitVec 32 := 2#32
  let v1220 : BitVec 32 := Scalar.muli v7 c2_i32_1057
  let v1221 : BitVec 32 := Scalar.addi c0_i32_1058 v1220
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1059 : BitVec 32 := 1#32
  let v1222 : BitVec 32 := Scalar.muli v5 c1_i32_1059
  let v1223 : BitVec 32 := Scalar.addi v1221 v1222
  v1223.toNat
def k0_dev52 (d0 : Dev nD) : Nat :=
  let c0_i32_1108 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1107 : BitVec 32 := 2#32
  let v1270 : BitVec 32 := Scalar.muli v7 c2_i32_1107
  let v1271 : BitVec 32 := Scalar.addi c0_i32_1108 v1270
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1109 : BitVec 32 := 1#32
  let v1272 : BitVec 32 := Scalar.muli v5 c1_i32_1109
  let v1273 : BitVec 32 := Scalar.addi v1271 v1272
  v1273.toNat
def k0_dev53 (d0 : Dev nD) : Nat :=
  let c0_i32_1158 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1157 : BitVec 32 := 2#32
  let v1320 : BitVec 32 := Scalar.muli v7 c2_i32_1157
  let v1321 : BitVec 32 := Scalar.addi c0_i32_1158 v1320
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1159 : BitVec 32 := 1#32
  let v1322 : BitVec 32 := Scalar.muli v5 c1_i32_1159
  let v1323 : BitVec 32 := Scalar.addi v1321 v1322
  v1323.toNat
def k0_dev54 (d0 : Dev nD) : Nat :=
  let c0_i32_1208 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1207 : BitVec 32 := 2#32
  let v1370 : BitVec 32 := Scalar.muli v7 c2_i32_1207
  let v1371 : BitVec 32 := Scalar.addi c0_i32_1208 v1370
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1209 : BitVec 32 := 1#32
  let v1372 : BitVec 32 := Scalar.muli v5 c1_i32_1209
  let v1373 : BitVec 32 := Scalar.addi v1371 v1372
  v1373.toNat
def k0_dev55 (d0 : Dev nD) : Nat :=
  let c0_i32_1258 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1257 : BitVec 32 := 2#32
  let v1420 : BitVec 32 := Scalar.muli v7 c2_i32_1257
  let v1421 : BitVec 32 := Scalar.addi c0_i32_1258 v1420
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1259 : BitVec 32 := 1#32
  let v1422 : BitVec 32 := Scalar.muli v5 c1_i32_1259
  let v1423 : BitVec 32 := Scalar.addi v1421 v1422
  v1423.toNat
def k0_dev56 (d0 : Dev nD) : Nat :=
  let c0_i32_1308 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1307 : BitVec 32 := 2#32
  let v1470 : BitVec 32 := Scalar.muli v7 c2_i32_1307
  let v1471 : BitVec 32 := Scalar.addi c0_i32_1308 v1470
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1309 : BitVec 32 := 1#32
  let v1472 : BitVec 32 := Scalar.muli v5 c1_i32_1309
  let v1473 : BitVec 32 := Scalar.addi v1471 v1472
  v1473.toNat
def k0_dev57 (d0 : Dev nD) : Nat :=
  let c0_i32_1358 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1357 : BitVec 32 := 2#32
  let v1520 : BitVec 32 := Scalar.muli v7 c2_i32_1357
  let v1521 : BitVec 32 := Scalar.addi c0_i32_1358 v1520
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1359 : BitVec 32 := 1#32
  let v1522 : BitVec 32 := Scalar.muli v5 c1_i32_1359
  let v1523 : BitVec 32 := Scalar.addi v1521 v1522
  v1523.toNat
def k0_dev58 (d0 : Dev nD) : Nat :=
  let c0_i32_1408 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1407 : BitVec 32 := 2#32
  let v1570 : BitVec 32 := Scalar.muli v7 c2_i32_1407
  let v1571 : BitVec 32 := Scalar.addi c0_i32_1408 v1570
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1409 : BitVec 32 := 1#32
  let v1572 : BitVec 32 := Scalar.muli v5 c1_i32_1409
  let v1573 : BitVec 32 := Scalar.addi v1571 v1572
  v1573.toNat
def k0_dev59 (d0 : Dev nD) : Nat :=
  let c0_i32_1458 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1457 : BitVec 32 := 2#32
  let v1620 : BitVec 32 := Scalar.muli v7 c2_i32_1457
  let v1621 : BitVec 32 := Scalar.addi c0_i32_1458 v1620
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1459 : BitVec 32 := 1#32
  let v1622 : BitVec 32 := Scalar.muli v5 c1_i32_1459
  let v1623 : BitVec 32 := Scalar.addi v1621 v1622
  v1623.toNat
def k0_dev60 (d0 : Dev nD) : Nat :=
  let c0_i32_1508 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1507 : BitVec 32 := 2#32
  let v1670 : BitVec 32 := Scalar.muli v7 c2_i32_1507
  let v1671 : BitVec 32 := Scalar.addi c0_i32_1508 v1670
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1509 : BitVec 32 := 1#32
  let v1672 : BitVec 32 := Scalar.muli v5 c1_i32_1509
  let v1673 : BitVec 32 := Scalar.addi v1671 v1672
  v1673.toNat
def k0_dev61 (d0 : Dev nD) : Nat :=
  let c0_i32_1558 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1557 : BitVec 32 := 2#32
  let v1720 : BitVec 32 := Scalar.muli v7 c2_i32_1557
  let v1721 : BitVec 32 := Scalar.addi c0_i32_1558 v1720
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1559 : BitVec 32 := 1#32
  let v1722 : BitVec 32 := Scalar.muli v5 c1_i32_1559
  let v1723 : BitVec 32 := Scalar.addi v1721 v1722
  v1723.toNat
def k0_dev62 (d0 : Dev nD) : Nat :=
  let c0_i32_1608 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1607 : BitVec 32 := 2#32
  let v1770 : BitVec 32 := Scalar.muli v7 c2_i32_1607
  let v1771 : BitVec 32 := Scalar.addi c0_i32_1608 v1770
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1609 : BitVec 32 := 1#32
  let v1772 : BitVec 32 := Scalar.muli v5 c1_i32_1609
  let v1773 : BitVec 32 := Scalar.addi v1771 v1772
  v1773.toNat
def k0_dev63 (d0 : Dev nD) : Nat :=
  let c0_i32_1658 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1657 : BitVec 32 := 2#32
  let v1820 : BitVec 32 := Scalar.muli v7 c2_i32_1657
  let v1821 : BitVec 32 := Scalar.addi c0_i32_1658 v1820
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1659 : BitVec 32 := 1#32
  let v1822 : BitVec 32 := Scalar.muli v5 c1_i32_1659
  let v1823 : BitVec 32 := Scalar.addi v1821 v1822
  v1823.toNat
def k0_dev64 (d0 : Dev nD) : Nat :=
  let c0_i32_1708 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1707 : BitVec 32 := 2#32
  let v1870 : BitVec 32 := Scalar.muli v7 c2_i32_1707
  let v1871 : BitVec 32 := Scalar.addi c0_i32_1708 v1870
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1709 : BitVec 32 := 1#32
  let v1872 : BitVec 32 := Scalar.muli v5 c1_i32_1709
  let v1873 : BitVec 32 := Scalar.addi v1871 v1872
  v1873.toNat
def k0_dev65 (d0 : Dev nD) : Nat :=
  let c0_i32_1758 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1757 : BitVec 32 := 2#32
  let v1920 : BitVec 32 := Scalar.muli v7 c2_i32_1757
  let v1921 : BitVec 32 := Scalar.addi c0_i32_1758 v1920
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1759 : BitVec 32 := 1#32
  let v1922 : BitVec 32 := Scalar.muli v5 c1_i32_1759
  let v1923 : BitVec 32 := Scalar.addi v1921 v1922
  v1923.toNat
def k0_dev66 (d0 : Dev nD) : Nat :=
  let c0_i32_1808 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1807 : BitVec 32 := 2#32
  let v1970 : BitVec 32 := Scalar.muli v7 c2_i32_1807
  let v1971 : BitVec 32 := Scalar.addi c0_i32_1808 v1970
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1809 : BitVec 32 := 1#32
  let v1972 : BitVec 32 := Scalar.muli v5 c1_i32_1809
  let v1973 : BitVec 32 := Scalar.addi v1971 v1972
  v1973.toNat
def k0_off4 (d0 : Dev nD) (c0_i32_2035 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c8192_i32_5 : BitVec 32 := 8192#32
  let v10 : BitVec 32 := Scalar.muli v9 c8192_i32_5
  let v2167 : BitVec 32 := Scalar.addi v10 c0_i32_2035
  let c0_i32_2042 : BitVec 32 := 0#32
  ![v2167.toNat, 0]
def k0_dev67 (d0 : Dev nD) : Nat :=
  let c0_i32_2357_r0 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2356_r0 : BitVec 32 := 2#32
  let v2488_r0 : BitVec 32 := Scalar.muli v2 c2_i32_2356_r0
  let v2489_r0 : BitVec 32 := Scalar.addi c0_i32_2357_r0 v2488_r0
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2358_r0 : BitVec 32 := 1#32
  let v2490_r0 : BitVec 32 := Scalar.muli v6 c1_i32_2358_r0
  let v2491_r0 : BitVec 32 := Scalar.addi v2489_r0 v2490_r0
  v2491_r0.toNat
def k0_dev68 (d0 : Dev nD) : Nat :=
  let c0_i32_2361_r0 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2360_r0 : BitVec 32 := 2#32
  let v2492_r0 : BitVec 32 := Scalar.muli v7 c2_i32_2360_r0
  let v2493_r0 : BitVec 32 := Scalar.addi c0_i32_2361_r0 v2492_r0
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2362_r0 : BitVec 32 := 1#32
  let v2494_r0 : BitVec 32 := Scalar.muli v5 c1_i32_2362_r0
  let v2495_r0 : BitVec 32 := Scalar.addi v2493_r0 v2494_r0
  v2495_r0.toNat
-- ==== ReferenceIdeal.lean ====
abbrev S2x16384x2048 : Shape := ⟨3, ![2, 16384, 2048]⟩
abbrev S_ : Shape := ⟨0, ![]⟩
abbrev S16384x2048 : Shape := ⟨2, ![16384, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S_, .f32⟩
  | .hbm, ⟨2, _⟩ => ⟨S16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Shape.lean ====
/-
The kernel's body as a program of loops over the thirty-two row chunks.

The printed body is one long sequence of operations. Here each operation is written once, at a symbolic device
and a symbolic chunk, and `body_eq` states that the printed body is the loops over these.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions

@[expose] public section

noncomputable section

namespace Cert.KernelIdeal.Pf

open Cert.KernelIdeal Cert.KernelIdeal.Gen
open Idealize.ShloMosaic Idealize.SL.Sem

variable {F : FTy → Type} [FloatOps F]

/-- The programs of a TensorCore of this kernel that return nothing. -/
abbrev KProg (F : FTy → Type) [FloatOps F] : Type 1 := Prog (TpuEff nD τ sig (Elt F) Λ₀ .tc) PUnit

/-! ## The semaphores -/

theorem inb_sem (k : Fin 32) : ∀ a, (![k.val] : Fin 1 → Nat) a + S1.size a ≤ S32.size a := by revert k; decide
theorem inb_sem2 (j : Fin 2) : ∀ a, (![j.val] : Fin 1 → Nat) a + S1.size a ≤ S2.size a := by revert j; decide

/-- Cell `k` of an array of thirty-two transfer semaphores. -/
def semAt (s : DmaSems sig S32) (k : Fin 32) : DmaSem sig :=
  ((s.slice (Rect.unit (s := S32) ![k.val] S1.size (inb_sem k))).squeeze S_ squeezes_S1_S_).sem

/-- The send and receive semaphores of the two exchanges, per chunk. -/
def p1s (k : Fin 32) : DmaSem sig := semAt cc0_scratch0 k
def p1r (k : Fin 32) : DmaSem sig := semAt cc0_scratch1 k
def p2s (k : Fin 32) : DmaSem sig := semAt cc0_scratch2 k
def p2r (k : Fin 32) : DmaSem sig := semAt cc0_scratch3 k

/-- The semaphores of the local copies: of the two operands, and of the result's two slots. -/
def sa : DmaSem sig := (cc0_scratch4 : DmaSems sig S_).sem
def sb : DmaSem sig := (cc0_scratch5 : DmaSems sig S_).sem
def scs (j : Fin 2) : DmaSem sig :=
  (((cc0_scratch6 : DmaSems sig S2).slice (Rect.unit (s := S2) ![j.val] S1.size (inb_sem2 j))).squeeze S_ squeezes_S1_S_).sem

/-- The entry barrier's semaphore and the exit barrier's. -/
def bar : Sem sig := (SemArray.scalar (sig.barrier 0 rfl) : Sems sig S_).sem
def bar2 : Sem sig := (cc0_scoped0 : Sems sig S_).sem

/-! ## The views -/

theorem inb_rv (k : Fin 32) : ∀ a, (![256 * k.val, 0] : Fin 2 → Nat) a + S256x1024.size a ≤ S8192x1024.size a := by
  revert k; decide
theorem inb_slot (j : Fin 2) : ∀ a, (![j.val, 0, 0] : Fin 3 → Nat) a + S1x256x1024.size a ≤ S2x256x1024.size a := by
  revert j; decide

/-- The word a chunk's first row is printed as. -/
abbrev kw (k : Fin 32) : BitVec 32 := BitVec.ofNat 32 (256 * k.val)

abbrev VA : Memref sig .tc .vmem S256x1024 .f32 := Memref.whole cc0_scratch7
abbrev VB : Memref sig .tc .vmem S256x1024 .f32 := Memref.whole cc0_scratch8
abbrev VC : Memref sig .tc .vmem S2x256x1024 .f32 := Memref.whole cc0_scratch9

/-- The chunk of the operand sent to the peer along y: the peer's columns. -/
abbrev xs (c : Dev nD) (k : Fin 32) : Memref sig .tc .hbm S256x1024 .f32 :=
  ((Memref.whole main_arg0).slice (Rect.unit (s := S1x16384x2048) (k0_off1 c (kw k)) S1x256x1024.size (k0_off1_inb c k)) (fun _ => rfl)).squeeze S256x1024 squeezes_S1x256x1024_S256x1024
/-- The chunk of the operand added here: this device's columns. -/
abbrev xo (c : Dev nD) (k : Fin 32) : Memref sig .tc .hbm S256x1024 .f32 :=
  ((Memref.whole main_arg0).slice (Rect.unit (s := S1x16384x2048) (k0_off2 c (kw k)) S1x256x1024.size (k0_off2_inb c k)) (fun _ => rfl)).squeeze S256x1024 squeezes_S1x256x1024_S256x1024
/-- The chunk of the receive buffer. -/
abbrev rv (k : Fin 32) : Memref sig .tc .hbm S256x1024 .f32 :=
  (Memref.whole main_v1_1).slice (Rect.unit (s := S8192x1024) ![256 * k.val, 0] S256x1024.size (inb_rv k)) (fun _ => rfl)
/-- The result's chunk computed by this device. -/
abbrev om (c : Dev nD) (k : Fin 32) : Memref sig .tc .hbm S256x1024 .f32 :=
  (Memref.whole main_v1_0).slice (Rect.unit (s := S16384x1024) (k0_off3 c (kw k)) S256x1024.size (k0_off3_inb c k)) (fun _ => rfl)
/-- The result's chunk computed by the peer along x. -/
abbrev op (c : Dev nD) (k : Fin 32) : Memref sig .tc .hbm S256x1024 .f32 :=
  (Memref.whole main_v1_0).slice (Rect.unit (s := S16384x1024) (k0_off4 c (kw k)) S256x1024.size (k0_off4_inb c k)) (fun _ => rfl)
/-- The rectangle of slot `j` of the two-slot buffer. -/
abbrev slotR (j : Fin 2) : Rect S2x256x1024 :=
  Rect.unit (s := S2x256x1024) ![j.val, 0, 0] S1x256x1024.size (inb_slot j)
/-- Slot `j` of the two-slot buffer. -/
abbrev cs (j : Fin 2) : Memref sig .tc .vmem S256x1024 .f32 :=
  (VC.slice (slotR j) (fun _ => rfl)).squeeze S256x1024 squeezes_S1x256x1024_S256x1024
/-- The whole of a one-chunk buffer, as a rectangle. -/
abbrev wholeR : Rect S256x1024 := Rect.unit (s := S256x1024) ![0, 0] S256x1024.size inb_S256x1024_S256x1024_0_0

/-- The slot chunk `k` goes through. -/
def slot (k : Fin 32) : Fin 2 := ⟨k.val % 2, Nat.mod_lt _ (by decide)⟩

/-- The peers along y and along x. -/
def yp (c : Dev nD) : Dev nD := ⟨k0_dev3 c, k0_dev3_lt c⟩
def xp (c : Dev nD) : Dev nD := ⟨k0_dev35 c, k0_dev35_lt c⟩

/-! ## The operations -/

/-- Chunk `k` of the operand goes to the peer along y. -/
def send1 (c : Dev nD) (k : Fin 32) : KProg F :=
  Prog.lift (.enqueueDma (xs c k) (.remote (Dev.tc (yp c)) (rv k) (.dma (p1s k))) (.dma (p1r k)) ((View.wordExact_bits rfl).reshape _ _) (View.wordExact_bits rfl) ⟨⟨rfl, Or.inl rfl⟩, trivial⟩)

/-- The two waits that free chunk `k`'s slot: its local copy, and its departure to the peer along x. -/
def free (c : Dev nD) (k : Fin 32) : KProg F := do
  Prog.lift (.waitDma2 (scs (slot k)) (cs (slot k)) (om c k) ((View.wordExact_bits rfl).reshape _ _) (View.wordExact_bits rfl))
  Prog.lift (.waitDma2 (p2s k) (om c k) (cs (slot k)) (View.wordExact_bits rfl) ((View.wordExact_bits rfl).reshape _ _))

/-- The first two chunks find their slot free, each later one waits for the chunk two before it. -/
def prewait (c : Dev nD) (k : Fin 32) : KProg F :=
  match k with
  | ⟨0, _⟩ => .ret ⟨⟩
  | ⟨1, _⟩ => .ret ⟨⟩
  | ⟨i + 2, h⟩ => free c ⟨i, by omega⟩

/-- Chunk `k` is fetched from both buffers, added, and put in its slot. -/
def compute (c : Dev nD) (k : Fin 32) : KProg F := do
  Prog.lift (.enqueueDma (xo c k) (.here VA) (.dma sa) ((View.wordExact_bits rfl).reshape _ _) (Memref.isWhole_whole _).wordExact ⟨Or.inl rfl, trivial⟩)
  Prog.lift (.waitDma2 (p1r k) (xs c k) (rv k) ((View.wordExact_bits rfl).reshape _ _) (View.wordExact_bits rfl))
  Prog.lift (.enqueueDma (rv k) (.here VB) (.dma sb) (View.wordExact_bits rfl) (Memref.isWhole_whole _).wordExact ⟨Or.inl rfl, trivial⟩)
  Prog.lift (.waitDma2 sa (xo c k) VA ((View.wordExact_bits rfl).reshape _ _) (Memref.isWhole_whole _).wordExact)
  Prog.lift (.waitDma2 sb (rv k) VB (View.wordExact_bits rfl) (Memref.isWhole_whole _).wordExact)
  let va : Vec F S256x1024 .f32 ← Prog.lift (.load VA wholeR.toLoadRect (View.loadsAt_vmem h_S256x1024))
  let vb : Vec F S256x1024 .f32 ← Prog.lift (.load VB wholeR.toLoadRect (View.loadsAt_vmem h_S256x1024))
  let _ : Vec F S1x256x1024 .f32 ← Prog.lift (.load VC (slotR (slot k)).toLoadRect (View.loadsAt_vmem h_S1x256x1024))
  Prog.lift (.store VC (slotR (slot k)) (k0_pay1 va vb) Finset.univ (View.stores_vmem_bits_univ h_S1x256x1024 rfl) (.inl rfl))

/-- Chunk `k`'s sum goes to the peer along x and to this device's own result. -/
def deliver (c : Dev nD) (k : Fin 32) : KProg F := do
  Prog.lift (.enqueueDma (cs (slot k)) (.remote (Dev.tc (xp c)) (om c k) (.dma (p2s k))) (.dma (p2r k)) ((View.wordExact_bits rfl).reshape _ _) (View.wordExact_bits rfl) ⟨⟨rfl, Or.inl rfl⟩, trivial⟩)
  Prog.lift (.enqueueDma (cs (slot k)) (.here (om c k)) (.dma (scs (slot k))) ((View.wordExact_bits rfl).reshape _ _) (View.wordExact_bits rfl) ⟨Or.inl rfl, trivial⟩)

/-- One chunk of the pipeline. -/
def step (c : Dev nD) (k : Fin 32) : KProg F := do
  prewait c k
  compute c k
  deliver c k

/-- Chunk `k` of the first exchange has left. -/
def sent1 (c : Dev nD) (k : Fin 32) : KProg F :=
  Prog.lift (.waitDma2 (p1s k) (rv k) (xs c k) (View.wordExact_bits rfl) ((View.wordExact_bits rfl).reshape _ _))

/-- Chunk `k` of the second exchange has arrived. -/
def recv2 (c : Dev nD) (k : Fin 32) : KProg F :=
  Prog.lift (.waitDma2 (p2r k) (cs 0) (op c k) ((View.wordExact_bits rfl).reshape _ _) (View.wordExact_bits rfl))

/-- The `n` chunks from `i` on, in order. -/
def loop (f : Fin 32 → KProg F) : ℕ → ℕ → KProg F
  | 0, _ => .ret ⟨⟩
  | n + 1, i => f (Fin.ofNat 32 i) >>= fun _ => loop f n (i + 1)

/-- A barrier with both peers. -/
def meet (c : Dev nD) (s : Sem sig) : KProg F := do
  semSignalWord (yp c) s 1#32
  semSignalWord (xp c) s 1#32
  semWaitWord s 2#32

/-- The body after the device is known. -/
def body (c : Dev nD) : KProg F := do
  meet c bar
  loop (send1 c) 32 0
  loop (step c) 32 0
  loop (sent1 c) 32 0
  free c 30
  free c 31
  loop (recv2 c) 32 0
  meet c bar2

set_option maxRecDepth 1000000 in
/-- The printed body is the loops. -/
theorem body_eq (t : Fin cfg0.N) : bodyAt0 (F := F) t = (Prog.lift .deviceId >>= fun c => body c) := by
  chain_rfl

end Cert.KernelIdeal.Pf

end
-- ==== Proof.Views.lean ====
/-
The chunks' places in their buffers, and the contents the kernel leaves in them.

Each chunk of a buffer is a band of 256 rows. The contents are stated as whole-buffer functions: what the receive
buffer holds after the first exchange (`recvF`), the result (`outF`), and the sum of a chunk in its slot (`slotF`).
-/
module

public import proofs.«01_k».proof.Proof.Shape
public import Idealize.ShloMosaic.Lib.ValueLayout
public import Idealize.ShloMosaic.Lib.Ring

@[expose] public section

noncomputable section

namespace Cert.KernelIdeal.Pf

open Cert.KernelIdeal Cert.KernelIdeal.Gen
open Idealize.ShloMosaic Idealize.SL.Sem
open Idealize.ShloMosaic.TcCoe
open Idealize.ShloMosaic.ValueIdx

variable {F : FTy → Type} [FloatOps F]

/-! ## The mesh -/

theorem yp_val (c : Dev nD) : (yp c).val = (2 * (c.val / 2) + 1) - c.val % 2 := k0_dev3_eq c
theorem xp_val (c : Dev nD) : (xp c).val = (c.val % 2 + 2) - 2 * (c.val / 2) := k0_dev35_eq c
theorem yp_yp (c : Dev nD) : yp (yp c) = c := by
  apply Fin.ext; rw [yp_val, yp_val]; have : c.val < 4 := c.isLt; omega
theorem xp_xp (c : Dev nD) : xp (xp c) = c := by
  apply Fin.ext; rw [xp_val, xp_val]; have : c.val < 4 := c.isLt; omega
theorem yp_div (c : Dev nD) : (yp c).val / 2 = c.val / 2 := by rw [yp_val]; omega
theorem yp_mod (c : Dev nD) : (yp c).val % 2 = 1 - c.val % 2 := by rw [yp_val]; omega
theorem xp_div (c : Dev nD) : (xp c).val / 2 = 1 - c.val / 2 := by rw [xp_val]; have : c.val < 4 := c.isLt; omega
theorem xp_mod (c : Dev nD) : (xp c).val % 2 = c.val % 2 := by rw [xp_val]; have : c.val < 4 := c.isLt; omega
theorem div_lt (c : Dev nD) : c.val / 2 < 2 := by have : c.val < 4 := c.isLt; omega

/-! ## Where a chunk's elements sit -/

/-- The squeezed index: a zero in front. -/
theorem sq (h : S256x1024.numel = S1x256x1024.numel) (j : S256x1024.Idx) :
    Shape.reshapeEquiv h j = ix3 (⟨0, Nat.one_pos⟩ : Fin 1) (j 0) (j 1) := by
  conv_lhs => rw [eq_ix2 j]
  exact reshapeEquiv_ix2_1ab h (j 0) (j 1)

theorem xs_emb1 (c : Dev nD) (k : Fin 32) (j : S256x1024.Idx) :
    (((xs c k).view.emb j) 1).val = 8192 * (c.val / 2) + 256 * k.val + (j 0).val := by
  show (k0_off1 c (kw k)) 1 + 1 * (Shape.reshapeEquiv _ j 1).val = _
  rw [show k0_off1 c (kw k) 1 = _ from congrFun (k0_off1_eq c k) 1, sq, Nat.one_mul]; rfl
theorem xs_emb2 (c : Dev nD) (k : Fin 32) (j : S256x1024.Idx) :
    (((xs c k).view.emb j) 2).val = 1024 - 1024 * (c.val % 2) + (j 1).val := by
  show (k0_off1 c (kw k)) 2 + 1 * (Shape.reshapeEquiv _ j 2).val = _
  rw [show k0_off1 c (kw k) 2 = _ from congrFun (k0_off1_eq c k) 2, sq, Nat.one_mul]; rfl
theorem xo_emb1 (c : Dev nD) (k : Fin 32) (j : S256x1024.Idx) :
    (((xo c k).view.emb j) 1).val = 8192 * (c.val / 2) + 256 * k.val + (j 0).val := by
  show (k0_off2 c (kw k)) 1 + 1 * (Shape.reshapeEquiv _ j 1).val = _
  rw [show k0_off2 c (kw k) 1 = _ from congrFun (k0_off2_eq c k) 1, sq, Nat.one_mul]; rfl
theorem xo_emb2 (c : Dev nD) (k : Fin 32) (j : S256x1024.Idx) :
    (((xo c k).view.emb j) 2).val = 1024 * (c.val % 2) + (j 1).val := by
  show (k0_off2 c (kw k)) 2 + 1 * (Shape.reshapeEquiv _ j 2).val = _
  rw [show k0_off2 c (kw k) 2 = _ from congrFun (k0_off2_eq c k) 2, sq, Nat.one_mul]; rfl
theorem rv_emb0 (k : Fin 32) (j : S256x1024.Idx) : (((rv k).view.emb j) 0).val = 256 * k.val + (j 0).val := by
  show 256 * k.val + 1 * (j 0).val = _; rw [Nat.one_mul]
theorem rv_emb1 (k : Fin 32) (j : S256x1024.Idx) : (((rv k).view.emb j) 1).val = (j 1).val := by
  show 0 + 1 * (j 1).val = _; rw [Nat.one_mul, Nat.zero_add]
theorem om_emb0 (c : Dev nD) (k : Fin 32) (j : S256x1024.Idx) :
    (((om c k).view.emb j) 0).val = 8192 * (c.val / 2) + 256 * k.val + (j 0).val := by
  show (k0_off3 c (kw k)) 0 + 1 * (j 0).val = _
  rw [show k0_off3 c (kw k) 0 = _ from congrFun (k0_off3_eq c k) 0, Nat.one_mul]; rfl
theorem om_emb1 (c : Dev nD) (k : Fin 32) (j : S256x1024.Idx) : (((om c k).view.emb j) 1).val = (j 1).val := by
  show (k0_off3 c (kw k)) 1 + 1 * (j 1).val = _
  rw [show k0_off3 c (kw k) 1 = _ from congrFun (k0_off3_eq c k) 1, Nat.one_mul]; exact Nat.zero_add _
theorem cs_emb1 (s : Fin 2) (j : S256x1024.Idx) : (((cs s).view.emb j) 1).val = (j 0).val := by
  show 0 + 1 * (Shape.reshapeEquiv _ j 1).val = _
  rw [sq, Nat.one_mul, Nat.zero_add]; rfl
theorem cs_emb2 (s : Fin 2) (j : S256x1024.Idx) : (((cs s).view.emb j) 2).val = (j 1).val := by
  show 0 + 1 * (Shape.reshapeEquiv _ j 2).val = _
  rw [sq, Nat.one_mul, Nat.zero_add]; rfl

/-! ## The chunks' element sets -/

/-- The elements of a receive chunk, of a result chunk, of an operand chunk, of a slot. -/
abbrev rvS (k : Fin 32) : Finset S8192x1024.Idx := (rv k).view.set
abbrev omS (c : Dev nD) (k : Fin 32) : Finset S16384x1024.Idx := (om c k).view.set
abbrev xsS (c : Dev nD) (k : Fin 32) : Finset S1x16384x2048.Idx := (xs c k).view.set
abbrev csS (s : Fin 2) : Finset S2x256x1024.Idx := (cs s).view.set

theorem mem_rv (k : Fin 32) (i : S8192x1024.Idx) :
    i ∈ rvS k ↔ 256 * k.val ≤ (i 0).val ∧ (i 0).val < 256 * k.val + 256 := by
  show i ∈ (View.slice (View.whole main_v1_1) (Rect.unit (s := S8192x1024) ![256 * k.val, 0] S256x1024.size (inb_rv k))).set ↔ _
  rw [View.set_slice_whole, Rect.mem_set_unit]
  refine ⟨fun h => h 0, fun h a => ?_⟩
  match a with
  | ⟨0, _⟩ => exact h
  | ⟨1, _⟩ => exact ⟨Nat.zero_le _, by show (i 1).val < 0 + 1024; have : (i 1).val < 1024 := (i 1).isLt; omega⟩

theorem mem_om (c : Dev nD) (k : Fin 32) (i : S16384x1024.Idx) :
    i ∈ omS c k ↔ 8192 * (c.val / 2) + 256 * k.val ≤ (i 0).val ∧ (i 0).val < 8192 * (c.val / 2) + 256 * k.val + 256 := by
  show i ∈ (View.slice (View.whole main_v1_0) (Rect.unit (s := S16384x1024) (k0_off3 c (kw k)) S256x1024.size (k0_off3_inb c k))).set ↔ _
  rw [View.set_slice_whole, Rect.mem_set_unit, k0_off3_eq]
  refine ⟨fun h => h 0, fun h a => ?_⟩
  match a with
  | ⟨0, _⟩ => exact h
  | ⟨1, _⟩ => exact ⟨Nat.zero_le _, by show (i 1).val < 0 + 1024; have : (i 1).val < 1024 := (i 1).isLt; omega⟩

theorem mem_xs (c : Dev nD) (k : Fin 32) (i : S1x16384x2048.Idx) (h : i ∈ xsS c k) :
    8192 * (c.val / 2) + 256 * k.val ≤ (i 1).val ∧ (i 1).val < 8192 * (c.val / 2) + 256 * k.val + 256 := by
  have e : xsS c k = (View.slice (View.whole main_arg0) (Rect.unit (s := S1x16384x2048) (k0_off1 c (kw k)) S1x256x1024.size (k0_off1_inb c k))).set :=
    View.set_reshape _ _
  have h' := h
  rw [e] at h'
  rw [View.set_slice_whole, Rect.mem_set_unit, k0_off1_eq] at h'
  exact h' 1

theorem cs_set (s : Fin 2) : csS s = (VC.view.slice (slotR s)).set := View.set_reshape _ _

theorem mem_cs (s : Fin 2) (i : S2x256x1024.Idx) : i ∈ csS s ↔ (i 0).val = s.val := by
  rw [cs_set]
  show i ∈ (View.slice (View.whole cc0_scratch9) (slotR s)).set ↔ _
  rw [View.set_slice_whole, Rect.mem_set_unit]
  refine ⟨fun h => by have := h 0; change s.val ≤ (i 0).val ∧ (i 0).val < s.val + 1 at this; omega, fun h a => ?_⟩
  match a with
  | ⟨0, _⟩ => exact ⟨by show s.val ≤ (i 0).val; omega, by show (i 0).val < s.val + 1; omega⟩
  | ⟨1, _⟩ => exact ⟨Nat.zero_le _, by show (i 1).val < 0 + 256; have : (i 1).val < 256 := (i 1).isLt; omega⟩
  | ⟨2, _⟩ => exact ⟨Nat.zero_le _, by show (i 2).val < 0 + 1024; have : (i 2).val < 1024 := (i 2).isLt; omega⟩

theorem rv_disj (k k' : Fin 32) (h : k ≠ k') : Disjoint (rvS k) (rvS k') := by
  refine Finset.disjoint_left.mpr fun i h1 h2 => h (Fin.ext ?_)
  have := (mem_rv k i).mp h1; have := (mem_rv k' i).mp h2; omega
theorem rv_cover : (Finset.univ.biUnion fun k => rvS k) = Finset.univ := by
  refine Finset.eq_univ_iff_forall.mpr fun i => Finset.mem_biUnion.mpr ?_
  have hi : (i 0).val < 8192 := (i 0).isLt
  exact ⟨⟨(i 0).val / 256, by omega⟩, Finset.mem_univ _, (mem_rv _ i).mpr (by dsimp only; omega)⟩
theorem om_disj (c : Dev nD) (k k' : Fin 32) (h : k ≠ k') : Disjoint (omS c k) (omS c k') := by
  refine Finset.disjoint_left.mpr fun i h1 h2 => h (Fin.ext ?_)
  have := (mem_om c k i).mp h1; have := (mem_om c k' i).mp h2; omega
theorem om_xp_disj (c : Dev nD) :
    Disjoint (Finset.univ.biUnion fun k => omS c k) (Finset.univ.biUnion fun k => omS (xp c) k) := by
  refine Finset.disjoint_left.mpr fun i h1 h2 => ?_
  obtain ⟨k, -, h1⟩ := Finset.mem_biUnion.mp h1
  obtain ⟨k', -, h2⟩ := Finset.mem_biUnion.mp h2
  have := (mem_om c k i).mp h1; have := (mem_om (xp c) k' i).mp h2; have := xp_div c; have := div_lt c
  have := k.isLt; have := k'.isLt; omega
theorem om_cover (c : Dev nD) :
    (Finset.univ.biUnion fun k => omS c k) ∪ (Finset.univ.biUnion fun k => omS (xp c) k) = Finset.univ := by
  refine Finset.eq_univ_iff_forall.mpr fun i => Finset.mem_union.mpr ?_
  have hi : (i 0).val < 16384 := (i 0).isLt
  have := div_lt c
  by_cases h : (i 0).val / 8192 = c.val / 2
  · exact .inl (Finset.mem_biUnion.mpr ⟨⟨(i 0).val % 8192 / 256, by omega⟩, Finset.mem_univ _, (mem_om c _ i).mpr (by dsimp only; omega)⟩)
  · exact .inr (Finset.mem_biUnion.mpr ⟨⟨(i 0).val % 8192 / 256, by omega⟩, Finset.mem_univ _, (mem_om (xp c) _ i).mpr (by
      rw [xp_div]; dsimp only; omega)⟩)
theorem xs_disj (c : Dev nD) (k k' : Fin 32) (h : k ≠ k') : Disjoint (xsS c k) (xsS c k') := by
  refine Finset.disjoint_left.mpr fun i h1 h2 => h (Fin.ext ?_)
  have := mem_xs c k i h1; have := mem_xs c k' i h2; omega
theorem cs_disj : Disjoint (csS 0) (csS 1) := by
  refine Finset.disjoint_left.mpr fun i h1 h2 => ?_
  have h1 := (mem_cs 0 i).mp h1; have h2 := (mem_cs 1 i).mp h2
  rw [h1] at h2; exact absurd h2 (by decide)
theorem cs_cover : csS 0 ∪ csS 1 = Finset.univ := by
  refine Finset.eq_univ_iff_forall.mpr fun i => Finset.mem_union.mpr ?_
  have hi : (i 0).val < 2 := (i 0).isLt
  rcases Nat.lt_or_ge (i 0).val 1 with h | h
  · exact .inl ((mem_cs 0 i).mpr (by show (i 0).val = 0; omega))
  · exact .inr ((mem_cs 1 i).mpr (by show (i 0).val = 1; omega))

/-! ## Contents -/

variable (m : (ℓ : Loc nD τ sig) → Buf (Elt F) ℓ)

/-- Device `c`'s operand at launch. -/
def xin (c : Dev nD) : S1x16384x2048.Idx → Elt F .f32 := m ((c : Thread nD τ).loc main_arg0)

/-- The element of device `c`'s operand at a row and a column. -/
def xAt (c : Dev nD) (r q : ℕ) : Elt F .f32 := xin m c (ix3 (0 : Fin 1) (Fin.ofNat 16384 r) (Fin.ofNat 2048 q))

theorem xin_eq (c : Dev nD) (i : S1x16384x2048.Idx) : xin m c i = xAt m c (i 1).val (i 2).val := by
  refine congrArg (xin m c) (funext fun a => ?_)
  have h0 : (i 0).val < 1 := (i 0).isLt
  have h1 : (i 1).val < 16384 := (i 1).isLt
  have h2 : (i 2).val < 2048 := (i 2).isLt
  match a with
  | ⟨0, _⟩ => exact Fin.ext (Nat.lt_one_iff.mp h0)
  | ⟨1, _⟩ => exact Fin.ext (Nat.mod_eq_of_lt h1).symm
  | ⟨2, _⟩ => exact Fin.ext (Nat.mod_eq_of_lt h2).symm

/-- What device `c`'s receive buffer holds after the first exchange: its y peer's rows of its half, at its columns. -/
def recvF (c : Dev nD) : S8192x1024.Idx → Elt F .f32 := fun i =>
  xAt m (yp c) (8192 * (c.val / 2) + (i 0).val) (1024 * (c.val % 2) + (i 1).val)

/-- The sum of device `d`'s operand and its y peer's at a row and a column. -/
def sumAt (d : Dev nD) (r q : ℕ) : Elt F .f32 := FloatOps.addf (xAt m d r q) (xAt m (yp d) r q)

/-- The device of `c`'s column that computes row `r` of the result. -/
def owner (c : Dev nD) (r : ℕ) : Dev nD := if r / 8192 = c.val / 2 then c else xp c

theorem owner_xp (c : Dev nD) (r : ℕ) (hr : r < 16384) : owner (xp c) r = owner c r := by
  unfold owner; rw [xp_xp, xp_div]; have := div_lt c
  split <;> split <;> first | rfl | (exfalso; omega)

/-- The result on device `c`: each row's sum as its owner computes it, at `c`'s columns. -/
def outF (c : Dev nD) : S16384x1024.Idx → Elt F .f32 := fun i =>
  sumAt m (owner c (i 0).val) (i 0).val (1024 * (c.val % 2) + (i 1).val)

/-- Chunk `k`'s sum, as a slot holds it. -/
def slotF (c : Dev nD) (k : Fin 32) : S2x256x1024.Idx → Elt F .f32 := fun i =>
  sumAt m c (8192 * (c.val / 2) + 256 * k.val + (i 1).val) (1024 * (c.val % 2) + (i 2).val)

/-- What the first exchange's chunk reads is what the receive buffer is to hold there. -/
theorem read_xs (c : Dev nD) (k : Fin 32) :
    (xs c k).view.read (Elt F) (xin m c) = (rv k).view.read (Elt F) (recvF m (yp c)) := by
  funext j
  show xin m c ((xs c k).view.emb j) = recvF m (yp c) ((rv k).view.emb j)
  rw [xin_eq, xs_emb1, xs_emb2]
  unfold recvF
  rw [rv_emb0, rv_emb1, yp_yp, yp_div, yp_mod, Nat.add_assoc]
  congr 1; omega

/-- The sum of what a chunk's two operands read is the chunk as its slot is to hold it. -/
theorem read_sum (c : Dev nD) (k : Fin 32) :
    (VC.view.slice (slotR (slot k))).read (Elt F) (slotF m c k)
      = k0_pay1 ((xo c k).view.read (Elt F) (xin m c)) ((rv k).view.read (Elt F) (recvF m c)) := by
  funext j
  obtain ⟨i, rfl⟩ := (Shape.reshapeEquiv (squeezes_S1x256x1024_S256x1024).numel_eq).surjective j
  have hi : Shape.reshapeEquiv shapeCasts_S256x1024_S1x256x1024
      (Shape.reshapeEquiv (squeezes_S1x256x1024_S256x1024).numel_eq i) = i := by
    rw [Shape.reshapeEquiv_reshapeEquiv, Shape.reshapeEquiv_self]
  refine Eq.trans (b := slotF m c k ((cs (slot k)).view.emb i)) rfl ?_
  refine Eq.trans ?_ (b := FloatOps.addf (xin m c ((xo c k).view.emb i)) (recvF m c ((rv k).view.emb i))) ?_
  swap
  · exact congrArg (fun i => FloatOps.addf (xin m c ((xo c k).view.emb i)) (recvF m c ((rv k).view.emb i))) hi.symm
  rw [xin_eq, xo_emb1, xo_emb2]
  unfold slotF recvF sumAt
  rw [cs_emb1, cs_emb2, rv_emb0, rv_emb1, Nat.add_assoc]

theorem owner_self (c : Dev nD) (k : Fin 32) (j : ℕ) (hj : j < 256) : owner c (8192 * (c.val / 2) + 256 * k.val + j) = c := by
  unfold owner; have := k.isLt; rw [if_pos (by omega)]

/-- A slot reads as the result does at its chunk, -/
theorem read_slot (c : Dev nD) (k : Fin 32) :
    (cs (slot k)).view.read (Elt F) (slotF m c k) = (om c k).view.read (Elt F) (outF m c) := by
  funext j
  show slotF m c k ((cs (slot k)).view.emb j) = outF m c ((om c k).view.emb j)
  unfold slotF outF
  rw [cs_emb1, cs_emb2, om_emb0, om_emb1, owner_self c k _ (j 0).isLt]

/-- and as the result of the peer along x does. -/
theorem read_slot_xp (c : Dev nD) (k : Fin 32) :
    (cs (slot k)).view.read (Elt F) (slotF m c k) = (om c k).view.read (Elt F) (outF m (xp c)) := by
  rw [read_slot]
  funext j
  show outF m c ((om c k).view.emb j) = outF m (xp c) ((om c k).view.emb j)
  unfold outF
  rw [xp_mod, owner_xp _ _ (((om c k).view.emb j) 0).isLt]

end Cert.KernelIdeal.Pf

end
-- ==== Proof.Sched.lean ====
/-
The protocol: the cells, their rounds and payloads, what each device owes at launch, and the levels of the waits.

Every device has 130 cells whose counters another device or its own remote transfers raise. Each runs one round, round 0.
* The entry barrier (`inr false`): two units. The peer along y pays duty `true` and hands over its receive buffer; the
  peer along x pays duty `false` and hands over the half of its result that this device computes.
* Chunk `k` of the first exchange: the send cell (`inl (0, k)`) gives back the share of the operand sent, the receive cell
  (`inl (1, k)`) the chunk of the receive buffer, filled.
* Chunk `k` of the second exchange: the send cell (`inl (2, k)`) gives back a share of the slot, the receive cell
  (`inl (3, k)`) the chunk of the result the peer along x computed, filled.
* The exit barrier (`inr true`): two units, nothing handed over.
-/
module

public import proofs.«01_k».proof.Proof.Views
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's rounds, this protocol's, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-! ## The cells -/

/-- A device's cells: the two exchanges' send and receive cells per chunk, the two barriers. -/
abbrev Cl : Type := (Fin 4 × Fin 32) ⊕ Bool

def barS (b : Bool) : Sem sig := match b with | false => bar | true => bar2
def xferS (q : Fin 4) (k : Fin 32) : DmaSem sig := match q with | 0 => p1s k | 1 => p1r k | 2 => p2s k | 3 => p2r k
def csem : Cl → SemLoc sig
  | .inl (q, k) => .dma (xferS q k)
  | .inr b => .reg (barS b)
abbrev kcell (cx : Dev nD × Cl) : GSem nD τ sig := ((cx.1 : Thread nD τ), csem cx.2)
abbrev xcell (c : Dev nD) (q : Fin 4) (k : Fin 32) : GSem nD τ sig := kcell (c, .inl (q, k))
abbrev bcell (c : Dev nD) (b : Bool) : GSem nD τ sig := kcell (c, .inr b)

/-- Which cell a semaphore is. -/
def cl : SemLoc sig → Option Cl
  | .dma s => if h : s.val < 128 then some (.inl (⟨s.val / 32, by omega⟩, ⟨s.val % 32, by omega⟩)) else none
  | .reg s => some (.inr (s.val == 1))

theorem xferS_val (q : Fin 4) (k : Fin 32) : (xferS q k).val = 32 * q.val + k.val := by
  match q with
  | 0 => revert k; decide
  | 1 => revert k; decide
  | 2 => revert k; decide
  | 3 => revert k; decide

theorem cl_csem (x : Cl) : cl (csem x) = some x := by
  match x with
  | .inl (q, k) =>
    have hv := xferS_val q k
    unfold csem cl
    dsimp only
    rw [dif_pos (by omega)]
    congr 3 <;> exact Fin.ext (by dsimp only; omega)
  | .inr true => rfl
  | .inr false => rfl

theorem csem_injective : Function.Injective csem := fun a b h => by
  have := congrArg cl h; rw [cl_csem, cl_csem] at this; exact Option.some.inj this

theorem kcell_injective : Function.Injective (kcell : Dev nD × Cl → GSem nD τ sig) := by
  rintro ⟨c, x⟩ ⟨c', x'⟩ h
  have h1 : c = c' := congrArg (fun g : GSem nD τ sig => g.1.1) h
  subst h1
  exact Prod.ext rfl (csem_injective (congrArg Prod.snd h))

theorem sa_val : sa.val = 128 := by decide
theorem sb_val : sb.val = 129 := by decide
theorem scs_val (j : Fin 2) : (scs j).val = 130 + j.val := by revert j; decide

/-- What a chunk's transfer credits. -/
abbrev N : ℕ := (rv 0).view.dmaCredit
theorem N_pos : 0 < N := View.dmaCredit_pos _ (by decide)

/-! ## The payloads -/

variable (m : (ℓ : Loc nD τ sig) → Buf (Elt F) ℓ)

/-- Parts of device `c`'s buffers: a chunk of the receive buffer, of the result, of the operand, a slot. -/
def rvP (c : Dev nD) (k : Fin 32) (f : S8192x1024.Idx → Elt F .f32) : sProp 𝕄 :=
  (rv k).view.loc (c : Thread nD τ) ↦[(rv k).view.set]{fullShare} f
def omP (d c : Dev nD) (k : Fin 32) (f : S16384x1024.Idx → Elt F .f32) : sProp 𝕄 :=
  (om c k).view.loc (d : Thread nD τ) ↦[(om c k).view.set]{fullShare} f
def xsP (c : Dev nD) (k : Fin 32) : sProp 𝕄 :=
  (xs c k).view.loc (c : Thread nD τ) ↦[(xs c k).view.set]{fullShare.left} xin m c
def csP (c : Dev nD) (j : Fin 2) (q : PosShare TreeShare) (f : S2x256x1024.Idx → Elt F .f32) : sProp 𝕄 :=
  (cs j).view.loc (c : Thread nD τ) ↦[(cs j).view.set]{q} f

instance rvP_storable (c : Dev nD) (k : Fin 32) (f) : BI.Storable (upEmb : UEmb _ 𝕄) (rvP (F := F) c k f) := by unfold rvP; infer_instance
instance omP_storable (d c : Dev nD) (k : Fin 32) (f) : BI.Storable (upEmb : UEmb _ 𝕄) (omP (F := F) d c k f) := by unfold omP; infer_instance
instance xsP_storable (c : Dev nD) (k : Fin 32) : BI.Storable (upEmb : UEmb _ 𝕄) (xsP m c k) := by unfold xsP; infer_instance
instance csP_storable (c : Dev nD) (j : Fin 2) (q) (f) : BI.Storable (upEmb : UEmb _ 𝕄) (csP (F := F) c j q f) := by unfold csP; infer_instance

/-- Device `c`'s receive buffer, chunk by chunk, at any contents; the chunks of device `d`'s result that `c` computes. -/
def rvAny (c : Dev nD) : sProp 𝕄 := bigSep Finset.univ fun k => iprop(∃ f, rvP (F := F) c k f)
def omAny (d c : Dev nD) : sProp 𝕄 := bigSep Finset.univ fun k => iprop(∃ f, omP (F := F) d c k f)

instance rvAny_storable (c : Dev nD) : BI.Storable (upEmb : UEmb _ 𝕄) (rvAny (F := F) c) := by unfold rvAny; infer_instance
instance omAny_storable (d c : Dev nD) : BI.Storable (upEmb : UEmb _ 𝕄) (omAny (F := F) d c) := by unfold omAny; infer_instance

/-- What a cell's duty hands the device the cell is on. -/
def pay (c : Dev nD) : Cl → Bool → sProp 𝕄
  | .inl (0, k), _ => xsP m c k
  | .inl (1, k), _ => rvP c k (recvF m c)
  | .inl (2, k), _ => csP c (slot k) fullShare.left (slotF m c k)
  | .inl (3, k), _ => omP c (xp c) k (outF m c)
  | .inr false, true => rvAny (yp c)
  | .inr false, false => omAny (xp c) c
  | .inr true, _ => iprop(emp)

instance pay_storable (c : Dev nD) (x : Cl) (d : Bool) : BI.Storable (upEmb : UEmb _ 𝕄) (pay m c x d) := by
  match x, d with
  | .inl (0, k), _ => exact xsP_storable m c k
  | .inl (1, k), _ => exact rvP_storable c k _
  | .inl (2, k), _ => exact csP_storable c _ _ _
  | .inl (3, k), _ => exact omP_storable c _ k _
  | .inr false, true => exact rvAny_storable _
  | .inr false, false => exact omAny_storable _ _
  | .inr true, _ => exact (inferInstance : BI.Storable (upEmb : UEmb _ 𝕄) iprop(emp))

/-- A cell's duties: one of a chunk's credit, or two of one unit. -/
def dut : Cl → Finset Bool
  | .inl _ => {false}
  | .inr _ => Finset.univ
def amt : Cl → ℕ
  | .inl _ => N
  | .inr _ => 1
/-- What a cell's round brings in all. -/
def tot : Cl → ℕ
  | .inl _ => N
  | .inr _ => 2

def Rd : Rounds.Schedule (GSem nD τ sig) Bool 𝕄 where
  duties g r := if r = 0 ∧ g.1.2 = .tc then (match cl g.2 with | some x => dut x | none => ∅) else ∅
  unitless _ := False
  amount g _ _ := match cl g.2 with | some x => amt x | none => 1
  payload g _ d := match cl g.2 with | some x => pay m g.1.1 x d | none => iprop(emp)
  amount_pos g _ _ _ := by
    split
    · rename_i x _; match x with
      | .inl _ => exact N_pos
      | .inr _ => exact Nat.one_pos
    · exact Nat.one_pos

instance Rd_payload_storable (g : GSem nD τ sig) (r : ℕ) (d : Bool) :
    BI.Storable (upEmb : UEmb _ 𝕄) ((Rd m).payload g r d) := by
  show BI.Storable upEmb (match cl g.2 with | some x => pay m g.1.1 x d | none => iprop(emp))
  split <;> infer_instance

theorem duties_eq (c : Dev nD) (x : Cl) : (Rd m).duties (kcell (c, x)) 0 = dut x := by
  show (if 0 = 0 ∧ (kcell (c, x)).1.2 = .tc then (match cl (csem x) with | some x => dut x | none => ∅) else ∅) = dut x
  rw [if_pos ⟨rfl, rfl⟩, cl_csem]
theorem duties_later (g : GSem nD τ sig) : ∀ r, 1 ≤ r → (Rd m).duties g r = ∅ :=
  fun r hr => if_neg fun h => by omega
theorem amount_eq (c : Dev nD) (x : Cl) (d : Bool) : (Rd m).amount (kcell (c, x)) 0 d = amt x := by
  show (match cl (csem x) with | some x => amt x | none => 1) = amt x
  rw [cl_csem]
theorem payload_eq (c : Dev nD) (x : Cl) (d : Bool) : (Rd m).payload (kcell (c, x)) 0 d = pay m c x d := by
  show (match cl (csem x) with | some x => pay m c x d | none => iprop(emp)) = pay m c x d
  rw [cl_csem]
theorem expect_eq (c : Dev nD) (x : Cl) : (Rd m).expect (kcell (c, x)) 0 = tot x := by
  unfold Schedule.expect Schedule.amountOf
  rw [duties_eq, Finset.sum_congr rfl fun d _ => amount_eq m c x d]
  match x with
  | .inl _ => exact Finset.sum_singleton _ _
  | .inr _ => rfl

/-- All of a chunk's cell's round is its payload; -/
theorem rest_xfer (c : Dev nD) (q : Fin 4) (k : Fin 32) :
    bigSep ((Rd m).duties (xcell c q k) 0 \ ∅) (fun d => (Rd m).payload (xcell c q k) 0 d) = pay m c (.inl (q, k)) false := by
  rw [Finset.sdiff_empty, duties_eq]; exact (bigSep_singleton (M := 𝕄)).trans (payload_eq m c _ false)
/-- of a barrier's, both peers'. -/
theorem rest_bar (c : Dev nD) (b : Bool) :
    bigSep ((Rd m).duties (bcell c b) 0 \ ∅) (fun d => (Rd m).payload (bcell c b) 0 d)
      = iprop(pay m c (.inr b) true ∗ pay m c (.inr b) false) := by
  rw [Finset.sdiff_empty, duties_eq]
  refine (bigSep_univ_eq_bigSepL [true, false] (by decide) (by decide) _).trans ?_
  rw [bigSepL_cons_cons, bigSepL_singleton, payload_eq, payload_eq]
  rfl

/-! ## What is owed, and the levels -/

/-- The credits of the chunks from `i` on, on cells `q` of device `t`. -/
def due (t : Dev nD) (q : Fin 4) (i : ℕ) : CellTallies nD τ sig Unit :=
  ∑ j ∈ Finset.Ico i 32, tallyAt (xcell t q (Fin.ofNat 32 j)) () N

theorem due_succ (t : Dev nD) (q : Fin 4) (k : Fin 32) :
    due t q k.val = due t q (k.val + 1) + tallyAt (xcell t q k) () N := by
  unfold due
  have hk := k.isLt
  rw [show Finset.Ico k.val 32 = insert k.val (Finset.Ico (k.val + 1) 32) by ext x; simp only [Finset.mem_Ico, Finset.mem_insert]; omega,
    Finset.sum_insert (by rw [Finset.mem_Ico]; omega), add_comm, show Fin.ofNat 32 k.val = k from Fin.ext (Nat.mod_eq_of_lt k.isLt)]
theorem due_end (t : Dev nD) (q : Fin 4) : due t q 32 = 0 := by
  unfold due; rw [Finset.Ico_self, Finset.sum_empty]

/-- The units a device's two signals of a barrier pay. -/
def dueB (c : Dev nD) (b : Bool) : CellTallies nD τ sig Unit := tallyAt (bcell (xp c) b) () 1 + tallyAt (bcell (yp c) b) () 1

/-- What is owed once the entry barrier's signals are sent, -/
def O₂ (c : Dev nD) (i j : ℕ) : CellTallies nD τ sig Unit := (dueB c true + due (xp c) 3 i) + due (yp c) 1 j
/-- and at launch. -/
def O₀ (c : Dev nD) : CellTallies nD τ sig Unit := O₂ c 0 0 + dueB c false

def L (g : GSem nD τ sig) : Finset Unit := if g.1.2 = .tc then {()} else ∅
/-- Local copies and departures wait on nobody; then come the entry barrier, the first exchange's arrivals, the second's,
    and the exit barrier. -/
def lvl : Cl → ℕ
  | .inl (0, _) => 0
  | .inl (1, _) => 2
  | .inl (2, _) => 0
  | .inl (3, _) => 3
  | .inr false => 1
  | .inr true => 4
def lv (g : GSem nD τ sig) (_ : Unit) : ℕ := match cl g.2 with | some x => lvl x | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (x : Cl) (u : Unit) : lv (kcell (c, x)) u = lvl x := by
  show (match cl (csem x) with | some x => lvl x | none => 0) = lvl x
  rw [cl_csem]
theorem lv_local (c : Dev nD) (s : DmaSem sig) (h : 128 ≤ s.val) (u : Unit) : lv ((c : Thread nD τ), .dma s) u = 0 := by
  unfold lv cl; dsimp only; rw [dif_neg (by omega)]

/-- Everything owed is on cells of TensorCores above a level. -/
def Above (n : ℕ) (O : CellTallies nD τ sig Unit) : Prop :=
  ∀ (g : GSem nD τ sig) (u : Unit), 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hp => by
  rw [Pi.add_apply, Finsupp.add_apply] at hp
  rcases Nat.eq_zero_or_pos (O g u) with hz | hz
  · exact h' g u (by omega)
  · exact h g u hz
theorem Above.at {n : ℕ} (c : Dev nD) (x : Cl) (k : ℕ) (h : n < lvl x) : Above n (tallyAt (kcell (c, x)) () k) := fun g u hp => by
  obtain ⟨rfl, rfl⟩ := Pipeline.tallyAt_pos hp
  exact ⟨rfl, by rw [lv_kcell]; exact h⟩
theorem Above.due {n : ℕ} (t : Dev nD) (q : Fin 4) (i : ℕ) (h : ∀ k, n < lvl (.inl (q, k))) : Above n (due t q i) :=
  Finset.sum_induction _ (Above n) (fun _ _ => Above.add) (Above.zero n) fun j _ => Above.at t _ N (h _)
theorem Above.dueB {n : ℕ} (c : Dev nD) (b : Bool) (h : n < lvl (.inr b)) : Above n (dueB c b) :=
  (Above.at _ _ 1 h).add (Above.at _ _ 1 h)
theorem Above.O₂ {n : ℕ} (c : Dev nD) (i j : ℕ) (h : n < 2) : Above n (O₂ c i j) :=
  ((Above.dueB c true (by show n < 4; omega)).add (Above.due _ _ _ fun k => by show n < 3; omega)).add
    (Above.due _ _ _ fun k => by show n < 2; omega)

/-- A wait at a level below everything owed. -/
theorem mayWait {n : ℕ} (c : Dev nD) (sm : SemLoc sig) (O : CellTallies nD τ sig Unit) (hn : lv ((c : Thread nD τ), sm) () ≤ n)
    (hO : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

end Cert.KernelIdeal.Pf

end
-- ==== Proof.Chunk.lean ====
/-
One chunk of each loop: what it takes, what it leaves.
-/
module

public import proofs.«01_k».proof.Proof.Sched
public import Idealize.SL.BI.BigOpNat

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` to the end and leaves `Q`. -/
abbrev WP (c : Dev nD) (p : KProg F) (Q : PUnit → sProp 𝕄) : sProp 𝕄 :=
  wp frame (wpE (defs₀ (F := F)) 𝒱₀ (c : Thread nD τ) none) Set.univ p Q

/-! ## The loop -/

/-- A family over the chunks, counted. -/
theorem fam_eq (A : Fin 32 → sProp 𝕄) : bigSep Finset.univ A = bigSep (Finset.Ico 0 32) fun j => A (Fin.ofNat 32 j) := by
  rw [show Finset.Ico 0 32 = (Finset.univ : Finset (Fin 32)).map Fin.valEmbedding by decide, bigSep_map]
  exact bigSep_congr fun k _ => by
    show A k = A (Fin.ofNat 32 k.val)
    rw [show Fin.ofNat 32 k.val = k from Fin.ext (Nat.mod_eq_of_lt k.isLt)]

theorem loop_aux (c : Dev nD) (f : Fin 32 → KProg F) (A B : Fin 32 → sProp 𝕄) (R : ℕ → sProp 𝕄)
    (h : ∀ (k : Fin 32) (Q : PUnit → sProp 𝕄), iprop(A k ∗ R k.val ∗ ((B k ∗ R (k.val + 1)) -∗ Q ⟨⟩)) ⊢ WP c (f k) Q) :
    ∀ (n i : ℕ), i + n = 32 → ∀ Q : PUnit → sProp 𝕄,
      iprop((bigSep (Finset.Ico i 32) fun j => A (Fin.ofNat 32 j)) ∗ R i
        ∗ (((bigSep (Finset.Ico i 32) fun j => B (Fin.ofNat 32 j)) ∗ R 32) -∗ Q ⟨⟩)) ⊢ WP c (loop f n i) Q := by
  intro n
  induction n with
  | zero =>
    intro i hi Q
    obtain rfl : i = 32 := by omega
    have he (A : ℕ → sProp 𝕄) : bigSep (Finset.Ico 32 32) A = iprop(emp) := by rw [Finset.Ico_self, bigSep_empty]; rfl
    rw [he, he]
    unfold loop WP
    rw [wp_ret]
    iintro ⟨-, HR, Hk⟩
    imodintro
    iapply Hk
    isplitr; · iempintro
    iexact HR
  | succ n ih =>
    intro i hi Q
    have hlt : i < 32 := by omega
    have hv : (Fin.ofNat 32 i).val = i := Nat.mod_eq_of_lt hlt
    have hh := h (Fin.ofNat 32 i) (fun _ => WP c (loop f n (i + 1)) Q)
    rw [hv] at hh
    rw [bigSep_Ico_succ_bot hlt, bigSep_Ico_succ_bot hlt]
    unfold loop WP
    rw [wp_bind]
    iintro ⟨⟨HA, HAs⟩, HR, Hk⟩
    iapply hh
    isplitl [HA]; · iexact HA
    isplitl [HR]; · iexact HR
    iintro ⟨HB, HR⟩
    iapply (ih (i + 1) (by omega) Q)
    isplitl [HAs]; · iexact HAs
    isplitl [HR]; · iexact HR
    iintro ⟨HBs, HR⟩
    iapply Hk
    isplitl [HB HBs]
    · isplitl [HB] <;> iassumption
    iexact HR

/-- A loop over the chunks: each takes its `A`, leaves its `B`, and hands `R` on. -/
theorem loop_wp (c : Dev nD) (f : Fin 32 → KProg F) (A B : Fin 32 → sProp 𝕄) (R : ℕ → sProp 𝕄)
    (h : ∀ (k : Fin 32) (Q : PUnit → sProp 𝕄), iprop(A k ∗ R k.val ∗ ((B k ∗ R (k.val + 1)) -∗ Q ⟨⟩)) ⊢ WP c (f k) Q)
    (Q : PUnit → sProp 𝕄) :
    iprop(bigSep Finset.univ A ∗ R 0 ∗ ((bigSep Finset.univ B ∗ R 32) -∗ Q ⟨⟩)) ⊢ WP c (loop f 32 0) Q := by
  rw [fam_eq A, fam_eq B]
  exact loop_aux c f A B R h 32 0 rfl Q

/-! ## The records -/

variable (m : (ℓ : Loc nD τ sig) → Buf (Elt F) ℓ) (K : Dev nD × Cl → ℕ)

/-- Every cell's invariant, that round 0 of it is reached, and the levels. -/
def recs : sProp 𝕄 :=
  iprop((bigSep Finset.univ fun cx : Dev nD × Cl => cellInv ER (Rd m) (K cx) (kcell cx))
    ∗ (bigSep Finset.univ fun cx : Dev nD × Cl => reached ER (kcell cx) 0) ∗ levAts L lv)

instance recs_persistent : BI.Persistent (recs m K) := by unfold recs; infer_instance

theorem inv_at (cx : Dev nD × Cl) : recs m K ⊢ cellInv ER (Rd m) (K cx) (kcell cx) := by
  unfold recs
  have h : (bigSep Finset.univ fun cx : Dev nD × Cl => (cellInv ER (Rd m) (K cx) (kcell cx) : sProp 𝕄)) ⊢ cellInv ER (Rd m) (K cx) (kcell cx) :=
    bigSep_elim (Finset.mem_univ cx)
  iintro ⟨#H, -, -⟩
  iapply h; iexact H
theorem reached_at (cx : Dev nD × Cl) : recs m K ⊢ reached ER (kcell cx) 0 := by
  unfold recs
  have h : (bigSep Finset.univ fun cx : Dev nD × Cl => (reached ER (kcell cx) 0 : sProp 𝕄)) ⊢ reached ER (kcell cx) 0 :=
    bigSep_elim (Finset.mem_univ cx)
  iintro ⟨-, #H, -⟩
  iapply h; iexact H
theorem lev_at : recs m K ⊢ (levAts L lv : sProp 𝕄) := by
  unfold recs
  iintro ⟨-, -, #H⟩
  iexact H

/-- What device `c` owes, whatever it has waited on. -/
def owesX (c : Dev nD) (O : CellTallies nD τ sig Unit) : sProp 𝕄 := iprop(∃ W, owes (c : Thread nD τ) O W)

/-- What a copy leaves is what it is to leave. -/
theorem landed {sp : Space} {s : Shape} {e : EltTy} (dst : Memref sig .tc sp s e) (fd g : dst.view.ty.Contents (Elt F)) (w : s.Idx → Elt F e)
    (h : w = dst.view.read (Elt F) g) : ∀ i ∈ dst.view.set, dst.view.write (Elt F) fd w Finset.univ i = g i := by
  subst h; intro i hi
  rw [View.write_read_eq_piecewise, View.setOn_univ]
  exact Finset.piecewise_eq_of_mem _ _ _ hi

/-- A wait for a chunk's transfer on cell `(q, k)`: its payload, and the cell closed. -/
theorem wp_arrive (c : Dev nD) (q : Fin 4) (k : Fin 32) {ss : DmaSem sig} (hs : ss = xferS q k) (O : CellTallies nD τ sig Unit) {n : ℕ} (hn : lvl (.inl (q, k)) ≤ n) (hO : Above n O)
    {sp sp' : Space} {s' : Shape} {e' : EltTy} {s : Shape} {e : EltTy}
    {srcw : Memref sig .tc sp' s' e'} {dstw : Memref sig .tc sp s e} {hsrc : srcw.view.WordExact} {hdst : dstw.view.WordExact}
    (hN : dstw.view.dmaCredit = N) {P : sProp 𝕄} (hP : pay m c (.inl (q, k)) false = P) {κ : PUnit → KProg F} {Q : PUnit → sProp 𝕄} :
    iprop(recs m K ∗ atPos ER (xcell c q k) 0 ∅ 0 ∗ cred (tallyAt (xcell c q k) () N) ∗ owesX c O)
      ⊢ iprop(((P ∗ semVal (xcell c q k) 0 ∗ owesX c O) -∗ WP c (κ ⟨⟩) Q)
          -∗ WP c (.op (.waitDma2 ss srcw dstw hsrc hdst) κ) Q) := by
  subst hs hP
  unfold owesX
  iintro ⟨#HI, Hat, Hc, ⟨%W, HO⟩⟩ Hk
  iapply (Rounds.wp_wait_rest_token 𝒱₀ ER (Rd m) (c : Thread nD τ) none (κ := K (c, .inl (q, k)))
      (wpE_waitDma2_eq 𝒱₀ (c : Thread nD τ) none Set.univ) (Set.mem_univ _) () (O := O) (W := W) (R := 0) (m := 0) (T := ∅)
      (by rw [Nat.zero_add, hN]; exact (expect_eq m c (.inl (q, k))).symm)) $$ [Hc HO Hat]
  · isplitr; · iapply (inv_at m K (c, .inl (q, k))); iexact HI
    isplitl [Hc]; · rw [hN]; iexact Hc
    isplitl [HO]; · iexact HO
    isplitr; · iapply (mayWait c (csem (.inl (q, k))) O ((lv_kcell c (.inl (q, k)) ()).trans_le hn) hO); iapply (lev_at m K); iexact HI
    iexact Hat
  iintro ⟨HO, Hat, -, Hpay⟩
  have hr : bigSep ((Rd m).duties ((c : Thread nD τ), SemLoc.dma (xferS q k)) 0 \ ∅)
      (fun d => (Rd m).payload ((c : Thread nD τ), SemLoc.dma (xferS q k)) 0 d) = pay m c (.inl (q, k)) false := rest_xfer m c q k
  ihave Hp := (Entails.of_eq hr) $$ Hpay
  imod (Rounds.cell_close ER (Rd m) (Set.mem_univ (K (c, .inl (q, k)))) (fun h => h) (R := 0 + 1) (duties_later m (xcell c q k))) $$ [Hat] with Hz
  · isplitr; · iapply (inv_at m K (c, .inl (q, k))); iexact HI
    iexact Hat
  iapply Hk
  isplitl [Hp]; · iexact Hp
  isplitl [Hz]; · iexact Hz
  iexists _; iexact HO

end Cert.KernelIdeal.Pf

end
-- ==== Proof.Ops.lean ====
/-
The chunk's operations outside the sum: what each takes, what it leaves.
-/
module

public import proofs.«01_k».proof.Proof.Chunk

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Cl → ℕ)

/-- Every chunk's transfer credits the same. -/
theorem credit_xs (c : Dev nD) (k : Fin 32) : (xs c k).view.dmaCredit = N := rfl
theorem credit_rv (k : Fin 32) : (rv k).view.dmaCredit = N := rfl
theorem credit_om (c : Dev nD) (k : Fin 32) : (om c k).view.dmaCredit = N := rfl
theorem credit_op (c : Dev nD) (k : Fin 32) : (op c k).view.dmaCredit = N := rfl
theorem credit_cs (j : Fin 2) : (cs j).view.dmaCredit = N := rfl
theorem credit_VA : VA.view.dmaCredit = N := rfl
theorem credit_VB : VB.view.dmaCredit = N := rfl

theorem mem_dut (c : Dev nD) (q : Fin 4) (k : Fin 32) : false ∈ (Rd m).duties (xcell c q k) 0 := by
  rw [duties_eq]; exact Finset.mem_singleton_self _

/-- A chunk's remote transfer: it pays its two cells, of which the receive cell is owed. -/
theorem wp_ship (c t : Dev nD) (qs qr : Fin 4) (k : Fin 32) (O : CellTallies nD τ sig Unit)
    {ss sr : DmaSem sig} (hs : ss = xferS qs k) (hr : sr = xferS qr k)
    {sp sp' : Space} {src : Memref sig .tc sp S256x1024 .f32} {dst : Memref sig .tc sp' S256x1024 .f32}
    {hsc : dst.view.ref.isScScratch = false} {hsrc : src.view.WordExact} {hdst : dst.view.WordExact}
    {hsem : DmaTarget.Typed sp (.dma sr) (.remote (Dev.tc t : Thread nD τ) dst (.dma ss) hsc)}
    (hN : dst.view.amount (.dma sr) = N) {q : PosShare TreeShare}
    (fs : Buf (Elt F) (src.view.loc (c : Thread nD τ))) (fd : Buf (Elt F) (dst.view.loc (t : Thread nD τ)))
    (hp₁ : (src.view.loc (c : Thread nD τ) ↦[src.view.set]{q} fs : sProp 𝕄) ⊢ pay m c (.inl (qs, k)) false)
    (hp₂ : (dst.view.loc (t : Thread nD τ) ↦[dst.view.set]{fullShare} dst.view.write (Elt F) fd (src.view.read (Elt F) fs) Finset.univ : sProp 𝕄)
      ⊢ pay m t (.inl (qr, k)) false)
    {κ : PUnit → KProg F} {Q : PUnit → sProp 𝕄} :
    iprop(recs m K ∗ (src.view.loc (c : Thread nD τ) ↦[src.view.set]{q} fs) ∗ (dst.view.loc (t : Thread nD τ) ↦[dst.view.set]{fullShare} fd)
        ∗ dutyTok ER (xcell c qs k) 0 false ∗ dutyTok ER (xcell t qr k) 0 false
        ∗ owesX c (O + tallyAt (xcell t qr k) () N))
      ⊢ iprop(((cred (tallyAt (xcell c qs k) () N) ∗ owesX c O) -∗ WP c (κ ⟨⟩) Q)
          -∗ WP c (.op (.enqueueDma src (.remote (Dev.tc t : Thread nD τ) dst (.dma ss) hsc) (.dma sr) hsrc hdst hsem) κ) Q) := by
  subst hs hr
  unfold owesX
  iintro ⟨#HI, Hs, Hd, Ht₁, Ht₂, ⟨%W, HO⟩⟩ Hk
  iapply (Rounds.wp_send_pointsTo 𝒱₀ ER (Rd m) (c : Thread nD τ) none (κ₁ := K (c, .inl (qs, k))) (κ₂ := K (t, .inl (qr, k)))
    (r₁ := 0) (r₂ := 0) (d₁ := false) (d₂ := false) (fd := fd)
    (mem_dut m c qs k)
    (mem_dut m t qr k)
    () () N hN (amount_eq m c (.inl (qs, k)) false) (amount_eq m t (.inl (qr, k)) false) O rfl (W := W)
    (hp₁.trans (Entails.of_eq (payload_eq m c (.inl (qs, k)) false).symm))
    (hp₂.trans (Entails.of_eq (payload_eq m t (.inl (qr, k)) false).symm))) $$ [Hs Hd Ht₁ Ht₂ HO]
  · isplitr; · iapply (inv_at m K (c, .inl (qs, k))); iexact HI
    isplitr; · iapply (inv_at m K (t, .inl (qr, k))); iexact HI
    isplitl [Hs]; · iexact Hs
    isplitl [Hd]; · iexact Hd
    isplitl [HO]; · iexact HO
    isplitl [Ht₁]; · iexact Ht₁
    isplitr; · iapply (reached_at m K (c, .inl (qs, k))); iexact HI
    isplitl [Ht₂]; · iexact Ht₂
    iapply (reached_at m K (t, .inl (qr, k))); iexact HI
  iintro ⟨Hc, HO⟩
  iapply Hk
  isplitl [Hc]; · iexact Hc
  iexists _; iexact HO

/-- A wait for a local copy: what it was to leave. -/
theorem wp_copied (c : Dev nD) (s : DmaSem sig) (hs : 128 ≤ s.val) (O : CellTallies nD τ sig Unit) {n : ℕ} (hO : Above n O)
    {sp sp' : Space} {s' : Shape} {e' : EltTy} {s₁ : Shape} {e : EltTy}
    {srcw : Memref sig .tc sp' s' e'} {dstw : Memref sig .tc sp s₁ e} {hsrc : srcw.view.WordExact} {hdst : dstw.view.WordExact}
    (hN : dstw.view.dmaCredit = N) (D : sProp 𝕄) {κ : PUnit → KProg F} {Q : PUnit → sProp 𝕄} :
    iprop(recs m K ∗ Flight EC (c : Thread nD τ) (.dma s) () N D ∗ owesX c O)
      ⊢ iprop(((D ∗ semVal ((c : Thread nD τ), .dma s) 0 ∗ owesX c O) -∗ WP c (κ ⟨⟩) Q)
          -∗ WP c (.op (.waitDma2 s srcw dstw hsrc hdst) κ) Q) := by
  unfold owesX
  iintro ⟨#HI, Hf, ⟨%W, HO⟩⟩ Hk
  iapply (wp_waitLocalO EC 𝒱₀ (c : Thread nD τ) none () hN (O := O) (W := W)) $$ [Hf HO]
  · isplitl [Hf]; · iexact Hf
    isplitl [HO]; · iexact HO
    iapply (mayWait c (.dma s) O ((lv_local c s hs ()).trans_le (Nat.zero_le n)) hO); iapply (lev_at m K); iexact HI
  iintro ⟨HD, Hv, HO⟩
  iapply Hk
  isplitl [HD]; · iexact HD
  isplitl [Hv]; · iexact Hv
  iexists _; iexact HO

/-! ## The first exchange -/

theorem send1_wp (c : Dev nD) (k : Fin 32) (O : CellTallies nD τ sig Unit) (Q : PUnit → sProp 𝕄) :
    iprop(recs m K ∗ (dutyTok ER (xcell c 0 k) 0 false ∗ dutyTok ER (xcell (yp c) 1 k) 0 false ∗ xsP m c k ∗ ∃ f, rvP (yp c) k f)
        ∗ owesX c (O + tallyAt (xcell (yp c) 1 k) () N)
        ∗ ((cred (tallyAt (xcell c 0 k) () N) ∗ owesX c O) -∗ Q ⟨⟩))
      ⊢ WP c (send1 c k) Q := by
  iintro ⟨#HI, ⟨Ht₁, Ht₂, Hx, ⟨%f, Hr⟩⟩, HO, Hk⟩
  unfold send1 WP xsP rvP
  simp only [Prog.lift]
  iapply (wp_ship m K c (yp c) 0 1 k O (src := xs c k) (dst := rv k) rfl rfl rfl (xin m c) f (Entails.of_eq rfl)
    (Entails.of_eq (pointsTo_congr (landed (rv k) f (recvF m (yp c)) _ (read_xs m c k))))) $$ [Hx Hr Ht₁ Ht₂ HO]
  · isplitr; · iexact HI
    isplitl [Hx]; · iexact Hx
    isplitl [Hr]; · iexact Hr
    isplitl [Ht₁]; · iexact Ht₁
    isplitl [Ht₂]; · iexact Ht₂
    iexact HO
  iintro H
  unfold WP
  rw [wp_ret]; imodintro
  iapply Hk; iexact H

theorem sent1_wp (c : Dev nD) (k : Fin 32) (O : CellTallies nD τ sig Unit) (hO : Above 0 O) (Q : PUnit → sProp 𝕄) :
    iprop(recs m K ∗ (atPos ER (xcell c 0 k) 0 ∅ 0 ∗ cred (tallyAt (xcell c 0 k) () N)) ∗ owesX c O
        ∗ (((xsP m c k ∗ semVal (xcell c 0 k) 0) ∗ owesX c O) -∗ Q ⟨⟩))
      ⊢ WP c (sent1 c k) Q := by
  iintro ⟨#HI, ⟨Hat, Hc⟩, HO, Hk⟩
  unfold sent1 WP
  simp only [Prog.lift]
  iapply (wp_arrive m K c 0 k rfl O le_rfl hO (credit_xs c k) (P := xsP m c k) rfl) $$ [Hat Hc HO]
  · isplitr; · iexact HI
    isplitl [Hat]; · iexact Hat
    isplitl [Hc]; · iexact Hc
    iexact HO
  iintro ⟨Hp, Hz, HO⟩
  unfold WP
  rw [wp_ret]; imodintro
  iapply Hk
  isplitl [Hp Hz]
  · isplitl [Hp]; · iexact Hp
    iexact Hz
  iexact HO

/-! ## The second exchange's arrivals -/

theorem recv2_wp (c : Dev nD) (k : Fin 32) (O : CellTallies nD τ sig Unit) (hO : Above 3 O) (Q : PUnit → sProp 𝕄) :
    iprop(recs m K ∗ (atPos ER (xcell c 3 k) 0 ∅ 0 ∗ cred (tallyAt (xcell c 3 k) () N)) ∗ owesX c O
        ∗ (((omP c (xp c) k (outF m c) ∗ semVal (xcell c 3 k) 0) ∗ owesX c O) -∗ Q ⟨⟩))
      ⊢ WP c (recv2 c k) Q := by
  iintro ⟨#HI, ⟨Hat, Hc⟩, HO, Hk⟩
  unfold recv2 WP
  simp only [Prog.lift]
  iapply (wp_arrive m K c 3 k rfl O le_rfl hO (credit_op c k) (P := omP c (xp c) k (outF m c)) rfl) $$ [Hat Hc HO]
  · isplitr; · iexact HI
    isplitl [Hat]; · iexact Hat
    isplitl [Hc]; · iexact Hc
    iexact HO
  iintro ⟨Hp, Hz, HO⟩
  unfold WP
  rw [wp_ret]; imodintro
  iapply Hk
  isplitl [Hp Hz]
  · isplitl [Hp]; · iexact Hp
    iexact Hz
  iexact HO

/-! ## A chunk of the pipeline -/

/-- A slot nothing is using, and the cell of its local copy. -/
def idle (c : Dev nD) (j : Fin 2) : sProp 𝕄 := iprop((∃ f, csP (F := F) c j fullShare f) ∗ semVal ((c : Thread nD τ), SemLoc.dma (scs j)) 0)
/-- Chunk `k` on its way out of its slot, to this device's result and to the peer along x. -/
def pend (c : Dev nD) (k : Fin 32) : sProp 𝕄 :=
  iprop(Flight EC (c : Thread nD τ) (.dma (scs (slot k))) () N
      iprop(omP c c k (outF m c) ∗ csP c (slot k) fullShare.right (slotF m c k))
    ∗ atPos ER (xcell c 2 k) 0 ∅ 0 ∗ cred (tallyAt (xcell c 2 k) () N))
/-- Chunk `k` delivered. -/
def done (c : Dev nD) (k : Fin 32) : sProp 𝕄 := iprop(omP c c k (outF m c) ∗ semVal (xcell c 2 k) 0)

theorem csP_halves (c : Dev nD) (j : Fin 2) (f : S2x256x1024.Idx → Elt F .f32) :
    (csP c j fullShare f : sProp 𝕄) = iprop(csP c j fullShare.left f ∗ csP c j fullShare.right f) := by
  unfold csP; exact BI.equiv_iff.mp ⟨(pointsTo_share (PosShare.mem_left_op_right fullShare)).1, (pointsTo_share (PosShare.mem_left_op_right fullShare)).2⟩

theorem free_wp (c : Dev nD) (k : Fin 32) (O : CellTallies nD τ sig Unit) (hO : Above 0 O) (Q : PUnit → sProp 𝕄) :
    iprop(recs m K ∗ pend m c k ∗ owesX c O ∗ ((idle (F := F) c (slot k) ∗ done m c k ∗ owesX c O) -∗ Q ⟨⟩))
      ⊢ WP c (free c k) Q := by
  unfold pend
  iintro ⟨#HI, ⟨Hf, Hat, Hc⟩, HO, Hk⟩
  unfold free WP
  simp only [Prog.lift, Prog.bind_op, Prog.bind_ret]
  iapply (wp_copied m K c (scs (slot k)) (by rw [scs_val]; omega) O hO (credit_om c k)) $$ [Hf HO]
  · isplitr; · iexact HI
    isplitl [Hf]; · iexact Hf
    iexact HO
  iintro ⟨⟨Hom, Hcs⟩, Hv, HO⟩
  iapply (wp_arrive m K c 2 k rfl O le_rfl hO (credit_cs (slot k)) (P := csP c (slot k) fullShare.left (slotF m c k)) rfl) $$ [Hat Hc HO]
  · isplitr; · iexact HI
    isplitl [Hat]; · iexact Hat
    isplitl [Hc]; · iexact Hc
    iexact HO
  iintro ⟨Hp, Hz, HO⟩
  unfold WP
  rw [wp_ret]; imodintro
  iapply Hk
  unfold idle done
  isplitl [Hcs Hp Hv]
  · isplitl [Hcs Hp]
    · iexists (slotF m c k)
      rw [csP_halves]
      isplitl [Hp]; · iexact Hp
      iexact Hcs
    iexact Hv
  isplitl [Hom Hz]
  · isplitl [Hom]; · iexact Hom
    iexact Hz
  iexact HO

end Cert.KernelIdeal.Pf

end
-- ==== Proof.Pipe.lean ====
/-
A chunk of the pipeline: fetched, added, delivered.
-/
module

public import proofs.«01_k».proof.Proof.Ops

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- What a store leaves is what it is to leave. -/
theorem stored {sp : Space} {s : Shape} {e : EltTy} (v : View sig .tc sp s e) (fd g : v.ty.Contents (Elt F)) (w : s.Idx → Elt F e)
    (h : w = v.read (Elt F) g) : ∀ i ∈ v.set, v.write (Elt F) fd w Finset.univ i = g i := by
  subst h; intro i hi
  rw [View.write_read_eq_piecewise, View.setOn_univ]
  exact Finset.piecewise_eq_of_mem _ _ _ hi

/-- A local copy, started. -/
theorem wp_copy (c : Dev nD) (s : DmaSem sig) {sp sp' : Space} {src : Memref sig .tc sp S256x1024 .f32} {dst : Memref sig .tc sp' S256x1024 .f32}
    {hsrc : src.view.WordExact} {hdst : dst.view.WordExact} {hsem : DmaTarget.Typed (nD := nD) (τ := τ) (p := .tc) sp (.dma s) (.here dst)}
    (hN : dst.view.amount (.dma s) = N) {q : PosShare TreeShare}
    (fs : Buf (Elt F) (src.view.loc (c : Thread nD τ))) (fd g : Buf (Elt F) (dst.view.loc (c : Thread nD τ)))
    (hg : src.view.read (Elt F) fs = dst.view.read (Elt F) g)
    {κ : PUnit → KProg F} {Q : PUnit → sProp 𝕄} :
    iprop((src.view.loc (c : Thread nD τ) ↦[src.view.set]{q} fs) ∗ (dst.view.loc (c : Thread nD τ) ↦[dst.view.set]{fullShare} fd)
        ∗ semVal ((c : Thread nD τ), SemLoc.dma s) 0)
      ⊢ iprop((Flight EC (c : Thread nD τ) (.dma s) () N
            iprop((dst.view.loc (c : Thread nD τ) ↦[dst.view.set]{fullShare} g) ∗ (src.view.loc (c : Thread nD τ) ↦[src.view.set]{q} fs)) -∗ WP c (κ ⟨⟩) Q)
          -∗ WP c (.op (.enqueueDma src (.here dst) (.dma s) hsrc hdst hsem) κ) Q) := by
  have h : iprop((src.view.loc (c : Thread nD τ) ↦[src.view.set]{q} fs) ∗ (dst.view.loc (c : Thread nD τ) ↦[dst.view.set]{fullShare} fd)
        ∗ semVal ((c : Thread nD τ), SemLoc.dma s) 0)
      ⊢ iprop((Flight EC (c : Thread nD τ) (.dma s) () N
            iprop((dst.view.loc (c : Thread nD τ) ↦[dst.view.set]{fullShare} dst.view.write (Elt F) fd (src.view.read (Elt F) fs) Finset.univ)
              ∗ (src.view.loc (c : Thread nD τ) ↦[src.view.set]{q} fs)) -∗ WP c (κ ⟨⟩) Q)
          -∗ WP c (.op (.enqueueDma src (.here dst) (.dma s) hsrc hdst hsem) κ) Q) :=
    wp_dmaLocal EC 𝒱₀ (c : Thread nD τ) none (via := .same) (fd := fd) () N hN N_pos (Finset.Subset.refl _)
  have e : (dst.view.loc (c : Thread nD τ) ↦[dst.view.set]{fullShare} dst.view.write (Elt F) fd (src.view.read (Elt F) fs) Finset.univ : sProp 𝕄)
      = dst.view.loc (c : Thread nD τ) ↦[dst.view.set]{fullShare} g := pointsTo_congr (landed dst fd g _ hg)
  rw [e] at h
  exact h

variable (m : (ℓ : Loc nD τ sig) → Buf (Elt F) ℓ) (K : Dev nD × Cl → ℕ)

/-- What every chunk of the pipeline works with and gives back: the two operand buffers, the cells of their copies, the
    operand. -/
def tools (c : Dev nD) : sProp 𝕄 :=
  iprop((∃ f, VA.view.loc (c : Thread nD τ) ↦[VA.view.set]{fullShare} f) ∗ (∃ f, VB.view.loc (c : Thread nD τ) ↦[VB.view.set]{fullShare} f)
    ∗ semVal ((c : Thread nD τ), SemLoc.dma sa) 0 ∗ semVal ((c : Thread nD τ), SemLoc.dma sb) 0
    ∗ ((c : Thread nD τ).loc main_arg0 ↦{fullShare.right} xin m c))

theorem hz2 : (![0, 0] : Fin 2 → Nat) = fun _ => 0 := funext fun a => by fin_cases a <;> rfl

/-- The operand's share, the chunk at hand carved out. -/
theorem xo_carve (c : Dev nD) (k : Fin 32) : ((c : Thread nD τ).loc main_arg0 ↦{fullShare.right} xin m c : sProp 𝕄)
    = iprop(((xo c k).view.loc (c : Thread nD τ) ↦[(xo c k).view.set]{fullShare.right} xin m c)
        ∗ ((c : Thread nD τ).loc main_arg0 ↦[Finset.univ \ (xo c k).view.set]{fullShare.right} xin m c)) :=
  BI.equiv_iff.mp ⟨(pointsTo_split_subset (Finset.subset_univ _)).1, (pointsTo_split_subset (Finset.subset_univ _)).2⟩

/-- A chunk, computed: the received chunk's arrival, the two copies, the sum in its slot. -/
theorem compute_wp (c : Dev nD) (k : Fin 32) (O : CellTallies nD τ sig Unit) (hO : Above 2 O) (Q : PUnit → sProp 𝕄) :
    iprop(recs m K ∗ (atPos ER (xcell c 1 k) 0 ∅ 0 ∗ cred (tallyAt (xcell c 1 k) () N)) ∗ tools m c ∗ (∃ f, csP (F := F) c (slot k) fullShare f) ∗ owesX c O
        ∗ (((rvP c k (recvF m c) ∗ semVal (xcell c 1 k) 0) ∗ tools m c ∗ csP c (slot k) fullShare (slotF m c k) ∗ owesX c O) -∗ Q ⟨⟩))
      ⊢ WP c (compute c k) Q := by
  unfold tools
  iintro ⟨#HI, ⟨Hat, Hc⟩, ⟨⟨%fa, Ha⟩, ⟨%fb, Hb⟩, Hsa, Hsb, Hx⟩, ⟨%fc, Hcs⟩, HO, Hk⟩
  ihave Hx' := (Entails.of_eq (xo_carve m c k)) $$ Hx
  icases Hx' with ⟨Hxo, Hxr⟩
  unfold compute WP
  simp only [Prog.lift, Prog.bind_op, Prog.bind_ret]
  -- the copy of the operand's chunk, started
  iapply (wp_copy c sa (src := xo c k) (dst := VA) credit_VA (xin m c) fa ((xo c k).view.read (Elt F) (xin m c)) rfl) $$ [Hxo Ha Hsa]
  · isplitl [Hxo]; · iexact Hxo
    isplitl [Ha]; · iexact Ha
    iexact Hsa
  iintro Hfa
  -- the received chunk's arrival
  iapply (wp_arrive m K c 1 k rfl O le_rfl hO (credit_rv k) (P := rvP c k (recvF m c)) rfl) $$ [Hat Hc HO]
  · isplitr; · iexact HI
    isplitl [Hat]; · iexact Hat
    isplitl [Hc]; · iexact Hc
    iexact HO
  iintro ⟨Hr, Hz, HO⟩
  unfold rvP
  -- its copy, started
  iapply (wp_copy c sb (src := rv k) (dst := VB) credit_VB (recvF m c) fb ((rv k).view.read (Elt F) (recvF m c)) rfl) $$ [Hr Hb Hsb]
  · isplitl [Hr]; · iexact Hr
    isplitl [Hb]; · iexact Hb
    iexact Hsb
  iintro Hfb
  -- both copies done
  iapply (wp_copied m K c sa (by rw [sa_val]) O hO credit_VA) $$ [Hfa HO]
  · isplitr; · iexact HI
    isplitl [Hfa]; · iexact Hfa
    iexact HO
  iintro ⟨⟨Ha, Hxo⟩, Hsa, HO⟩
  iapply (wp_copied m K c sb (by rw [sb_val]; omega) O hO credit_VB) $$ [Hfb HO]
  · isplitr; · iexact HI
    isplitl [Hfb]; · iexact Hfb
    iexact HO
  iintro ⟨⟨Hb, Hr⟩, Hsb, HO⟩
  -- the loads and the store
  iapply (wp_load 𝒱₀ (c : Thread nD τ) none Set.univ (m := VA) (by rw [Memref.view_whole, View.set_whole]; exact Finset.subset_univ _)) $$ Ha
  iintro Ha
  rw [show VA.view.readAt (Elt F) wholeR.toLoadRect ((xo c k).view.read (Elt F) (xin m c)) = (xo c k).view.read (Elt F) (xin m c) from
    Memref.readAt_unit_zero (Elt F) cc0_scratch7 hz2 _ _]
  iapply (wp_load 𝒱₀ (c : Thread nD τ) none Set.univ (m := VB) (by rw [Memref.view_whole, View.set_whole]; exact Finset.subset_univ _)) $$ Hb
  iintro Hb
  rw [show VB.view.readAt (Elt F) wholeR.toLoadRect ((rv k).view.read (Elt F) (recvF m c)) = (rv k).view.read (Elt F) (recvF m c) from
    Memref.readAt_unit_zero (Elt F) cc0_scratch8 hz2 _ _]
  unfold csP
  iapply (wp_load_rect 𝒱₀ (c : Thread nD τ) none Set.univ (m := VC) (r := slotR (slot k)) (cs_set (slot k)).ge) $$ Hcs
  iintro Hcs
  iapply (wp_store 𝒱₀ (c : Thread nD τ) none Set.univ (m := VC) (r := slotR (slot k)) (Mk := Finset.univ) (cs_set (slot k)).ge) $$ Hcs
  iintro Hcs
  have hst : ((VC.access (slotR (slot k))).loc (c : Thread nD τ) ↦[(cs (slot k)).view.set]{fullShare}
        (VC.access (slotR (slot k))).write (Elt F) fc (k0_pay1 ((xo c k).view.read (Elt F) (xin m c)) ((rv k).view.read (Elt F) (recvF m c))) Finset.univ : sProp 𝕄)
      = (cs (slot k)).view.loc (c : Thread nD τ) ↦[(cs (slot k)).view.set]{fullShare} slotF m c k :=
    pointsTo_congr fun i hi => stored (VC.access (slotR (slot k))) fc (slotF m c k) _ (read_sum m c k).symm i ((cs_set (slot k)).le hi)
  ihave Hcs := (Entails.of_eq hst) $$ Hcs
  rw [wp_ret]; imodintro
  iapply Hk
  isplitl [Hr Hz]
  · isplitl [Hr]; · iexact Hr
    iexact Hz
  isplitl [Ha Hb Hsa Hsb Hxo Hxr]
  · isplitl [Ha]; · iexists _; iexact Ha
    isplitl [Hb]; · iexists _; iexact Hb
    isplitl [Hsa]; · iexact Hsa
    isplitl [Hsb]; · iexact Hsb
    rw [xo_carve m c k]
    isplitl [Hxo]; · iexact Hxo
    iexact Hxr
  isplitl [Hcs]; · iexact Hcs
  iexact HO

/-- A chunk, delivered: the sum sent to the neighbour along x and copied into the device's own output, both left running. -/
theorem deliver_wp (c : Dev nD) (k : Fin 32) (O : CellTallies nD τ sig Unit) (Q : PUnit → sProp 𝕄) :
    iprop(recs m K ∗ (dutyTok ER (xcell c 2 k) 0 false ∗ dutyTok ER (xcell (xp c) 3 k) 0 false ∗ atPos ER (xcell c 2 k) 0 ∅ 0
          ∗ (∃ f, omP (F := F) (xp c) c k f) ∗ (∃ f, omP (F := F) c c k f))
        ∗ csP c (slot k) fullShare (slotF m c k) ∗ semVal ((c : Thread nD τ), SemLoc.dma (scs (slot k))) 0
        ∗ owesX c (O + tallyAt (xcell (xp c) 3 k) () N)
        ∗ ((pend m c k ∗ owesX c O) -∗ Q ⟨⟩))
      ⊢ WP c (deliver c k) Q := by
  rw [csP_halves]
  iintro ⟨#HI, ⟨Ht₁, Ht₂, Hat, ⟨%fx, Hx⟩, ⟨%fo, Ho⟩⟩, ⟨Hl, Hr⟩, Hv, HO, Hk⟩
  unfold deliver WP
  simp only [Prog.lift, Prog.bind_op, Prog.bind_ret]
  unfold omP csP
  have hx : ((om c k).view.loc (xp c : Thread nD τ) ↦[(om c k).view.set]{fullShare}
        (om c k).view.write (Elt F) fx ((cs (slot k)).view.read (Elt F) (slotF m c k)) Finset.univ : sProp 𝕄) ⊢ pay m (xp c) (.inl (3, k)) false := by
    show _ ⊢ omP (xp c) (xp (xp c)) k (outF m (xp c))
    rw [xp_xp]
    exact Entails.of_eq (pointsTo_congr (landed (om c k) fx (outF m (xp c)) _ (read_slot_xp m c k)))
  iapply (wp_ship m K c (xp c) 2 3 k O (src := cs (slot k)) (dst := om c k) rfl rfl (credit_om c k) (slotF m c k) fx (Entails.of_eq rfl) hx) $$ [Hl Hx Ht₁ Ht₂ HO]
  · isplitr; · iexact HI
    isplitl [Hl]; · iexact Hl
    isplitl [Hx]; · iexact Hx
    isplitl [Ht₁]; · iexact Ht₁
    isplitl [Ht₂]; · iexact Ht₂
    iexact HO
  iintro ⟨Hc, HO⟩
  iapply (wp_copy c (scs (slot k)) (src := cs (slot k)) (dst := om c k) (credit_om c k) (slotF m c k) fo (outF m c) (read_slot m c k)) $$ [Hr Ho Hv]
  · isplitl [Hr]; · iexact Hr
    isplitl [Ho]; · iexact Ho
    iexact Hv
  iintro Hf
  unfold WP
  rw [wp_ret]; imodintro
  iapply Hk
  unfold pend omP csP
  isplitr [HO]
  · isplitl [Hf]; · iexact Hf
    isplitl [Hat]; · iexact Hat
    iexact Hc
  iexact HO

end Cert.KernelIdeal.Pf

end
-- ==== Proof.Steps.lean ====
/-
A chunk of the pipeline among the others, and the barriers.
-/
module

public import proofs.«01_k».proof.Proof.Pipe

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Cl → ℕ)

/-! ## One chunk -/

/-- What the pipeline holds of its two slots before chunk `i`; -/
def slots (c : Dev nD) : ℕ → sProp 𝕄
  | 0 => iprop(idle (F := F) c 0 ∗ idle (F := F) c 1)
  | 1 => iprop(idle (F := F) c 1 ∗ pend m c 0)
  | i + 2 => iprop(pend m c (Fin.ofNat 32 i) ∗ pend m c (Fin.ofNat 32 (i + 1)))
/-- what it holds of the other slot once chunk `i`'s is free; -/
def other (c : Dev nD) : ℕ → sProp 𝕄
  | 0 => idle (F := F) c 1
  | i + 1 => pend m c (Fin.ofNat 32 i)
/-- and the chunks that are over. -/
def dones (c : Dev nD) (i : ℕ) : sProp 𝕄 := bigSep (Finset.Ico 0 i) fun j => done m c (Fin.ofNat 32 j)

theorem dones_zero (c : Dev nD) : dones m c 0 = iprop(emp) := by unfold dones; rw [Finset.Ico_self, bigSep_empty]; rfl
theorem dones_succ (c : Dev nD) (i : ℕ) : dones m c (i + 1) = iprop(done m c (Fin.ofNat 32 i) ∗ dones m c i) := by
  unfold dones; exact bigSep_Ico_succ_top (Nat.zero_le i) _

theorem ofNat_val (k : Fin 32) : Fin.ofNat 32 k.val = k := Fin.ext (Nat.mod_eq_of_lt k.isLt)

theorem slots_succ (c : Dev nD) (k : Fin 32) : slots m c (k.val + 1) = iprop(other m c k.val ∗ pend m c k) := by
  obtain ⟨i, hi⟩ := k
  match i, hi with
  | 0, _ => rfl
  | i + 1, hi => exact congrArg (fun k : Fin 32 => (iprop(pend m c (Fin.ofNat 32 i) ∗ pend m c k) : sProp 𝕄)) (ofNat_val ⟨i + 1, hi⟩)

/-- Chunk `k`'s slot is free once the chunk two before it is over. -/
theorem prewait_wp (c : Dev nD) (k : Fin 32) (O : CellTallies nD τ sig Unit) (hO : Above 0 O) (Q : PUnit → sProp 𝕄) :
    iprop(recs m K ∗ (slots m c k.val ∗ dones m c (k.val - 2)) ∗ owesX c O
        ∗ ((idle (F := F) c (slot k) ∗ (other m c k.val ∗ dones m c (k.val + 1 - 2)) ∗ owesX c O) -∗ Q ⟨⟩))
      ⊢ WP c (prewait c k) Q := by
  obtain ⟨i, hi⟩ := k
  match i, hi with
  | 0, _ =>
    unfold prewait slots other WP
    rw [wp_ret]
    iintro ⟨-, ⟨⟨H0, H1⟩, Hd⟩, HO, Hk⟩
    imodintro
    iapply Hk
    isplitl [H0]; · iexact H0
    isplitr [HO]
    · isplitl [H1]; · iexact H1
      iexact Hd
    iexact HO
  | 1, _ =>
    unfold prewait slots other WP
    rw [wp_ret]
    iintro ⟨-, ⟨⟨H0, H1⟩, Hd⟩, HO, Hk⟩
    imodintro
    iapply Hk
    isplitl [H0]; · iexact H0
    isplitr [HO]
    · isplitl [H1]; · iexact H1
      iexact Hd
    iexact HO
  | i + 2, hi =>
    have hi' : i < 32 := by omega
    have hs : slot ⟨i + 2, hi⟩ = slot ⟨i, hi'⟩ := Fin.ext (Nat.add_mod_right i 2)
    have hv : (⟨i, hi'⟩ : Fin 32) = Fin.ofNat 32 i := (ofNat_val ⟨i, hi'⟩).symm
    show _ ⊢ WP c (free c ⟨i, hi'⟩) Q
    rw [hs, show i + 2 + 1 - 2 = i + 1 from rfl, show i + 2 - 2 = i from rfl, dones_succ,
      show slots m c (i + 2) = iprop(pend m c (Fin.ofNat 32 i) ∗ pend m c (Fin.ofNat 32 (i + 1))) from rfl,
      show other m c (i + 2) = pend m c (Fin.ofNat 32 (i + 1)) from rfl, ← hv]
    iintro ⟨#HI, ⟨⟨H0, H1⟩, Hd⟩, HO, Hk⟩
    iapply (free_wp m K c ⟨i, hi'⟩ O hO Q)
    isplitr; · iexact HI
    isplitl [H0]; · iexact H0
    isplitl [HO]; · iexact HO
    iintro ⟨Hi, Hn, HO⟩
    iapply Hk
    isplitl [Hi]; · iexact Hi
    isplitr [HO]
    · isplitl [H1]; · iexact H1
      isplitl [Hn]; · iexact Hn
      iexact Hd
    iexact HO

/-- What is owed while the pipeline runs. -/
def Os (c : Dev nD) (i : ℕ) : CellTallies nD τ sig Unit := dueB c true + due (xp c) 3 i

theorem Above.Os (c : Dev nD) (i : ℕ) {n : ℕ} (h : n < 3) : Above n (Os c i) :=
  (Above.dueB c true (by show n < 4; omega)).add (Above.due _ _ _ fun k => h)

/-- What chunk `k` of the pipeline takes, and what it leaves. -/
def stepA (c : Dev nD) (k : Fin 32) : sProp 𝕄 :=
  iprop((atPos ER (xcell c 1 k) 0 ∅ 0 ∗ cred (tallyAt (xcell c 1 k) () N))
    ∗ (dutyTok ER (xcell c 2 k) 0 false ∗ dutyTok ER (xcell (xp c) 3 k) 0 false ∗ atPos ER (xcell c 2 k) 0 ∅ 0
      ∗ (∃ f, omP (F := F) (xp c) c k f) ∗ (∃ f, omP (F := F) c c k f)))
def stepB (c : Dev nD) (k : Fin 32) : sProp 𝕄 := iprop(rvP c k (recvF m c) ∗ semVal (xcell c 1 k) 0)
def stepR (c : Dev nD) (i : ℕ) : sProp 𝕄 :=
  iprop(recs m K ∗ (slots m c i ∗ dones m c (i - 2)) ∗ tools m c ∗ owesX c (Os c i))

/-- One chunk of the pipeline. -/
theorem step_wp (c : Dev nD) (k : Fin 32) (Q : PUnit → sProp 𝕄) :
    iprop(stepA (F := F) c k ∗ stepR m K c k.val ∗ ((stepB m c k ∗ stepR m K c (k.val + 1)) -∗ Q ⟨⟩)) ⊢ WP c (step c k) Q := by
  unfold stepA stepB stepR step WP
  rw [wp_bind]
  iintro ⟨⟨H1, H2⟩, ⟨#HI, Hs, Ht, HO⟩, Hk⟩
  iapply (prewait_wp m K c k (Os c k.val) (Above.Os c _ (by omega)))
  isplitr; · iexact HI
  isplitl [Hs]; · iexact Hs
  isplitl [HO]; · iexact HO
  iintro ⟨Hi, ⟨Ho, Hd⟩, HO⟩
  rw [wp_bind]
  unfold idle
  icases Hi with ⟨Hc, Hv⟩
  iapply (compute_wp m K c k (Os c k.val) (Above.Os c _ (by omega)))
  isplitr; · iexact HI
  isplitl [H1]; · iexact H1
  isplitl [Ht]; · iexact Ht
  isplitl [Hc]; · iexact Hc
  isplitl [HO]; · iexact HO
  iintro ⟨Hb, Ht, Hc, HO⟩
  iapply (deliver_wp m K c k (Os c (k.val + 1)) Q)
  isplitr; · iexact HI
  isplitl [H2]; · iexact H2
  isplitl [Hc]; · iexact Hc
  isplitl [Hv]; · iexact Hv
  isplitl [HO]; · unfold Os; rw [add_assoc, ← due_succ]; iexact HO
  iintro ⟨Hp, HO⟩
  iapply Hk
  isplitl [Hb]; · iexact Hb
  isplitr; · iexact HI
  isplitl [Ho Hp Hd]
  · rw [slots_succ]
    isplitl [Ho Hp]
    · isplitl [Ho] <;> iassumption
    iexact Hd
  isplitl [Ht]; · iexact Ht
  iexact HO

/-! ## A barrier -/

/-- What a device's pass through a barrier takes. -/
def gate (c : Dev nD) (b : Bool) : sProp 𝕄 :=
  iprop(dutyTok ER (bcell (yp c) b) 0 true ∗ dutyTok ER (bcell (xp c) b) 0 false ∗ atPos ER (bcell c b) 0 ∅ 0 ∗ cred (tallyAt (bcell c b) () 2))

/-- A barrier: each peer gets what is its, the device gets what both have for it. -/
theorem meet_wp (c : Dev nD) (b : Bool) (O : CellTallies nD τ sig Unit) (hO : Above (lvl (.inr b)) O) (Q : PUnit → sProp 𝕄) :
    iprop(recs m K ∗ gate c b ∗ pay m (yp c) (.inr b) true ∗ pay m (xp c) (.inr b) false ∗ owesX c (O + dueB c b)
        ∗ ((pay m c (.inr b) true ∗ pay m c (.inr b) false ∗ semVal (bcell c b) 0 ∗ owesX c O) -∗ Q ⟨⟩))
      ⊢ WP c (meet c (barS b)) Q := by
  unfold gate owesX
  iintro ⟨#HI, ⟨Hty, Htx, Hat, Hc⟩, Hpy, Hpx, ⟨%W, HO⟩, Hk⟩
  unfold meet WP
  simp only [semSignalWord, semWaitWord, Prog.lift, Prog.bind_op, Prog.bind_ret]
  have hpy : pay m (yp c) (.inr b) true ⊢ (Rd m).payload ((yp c : Thread nD τ), SemLoc.reg (barS b)) 0 true :=
    Entails.of_eq (payload_eq m (yp c) (.inr b) true).symm
  have hpx : pay m (xp c) (.inr b) false ⊢ (Rd m).payload ((xp c : Thread nD τ), SemLoc.reg (barS b)) 0 false :=
    Entails.of_eq (payload_eq m (xp c) (.inr b) false).symm
  iapply (Rounds.wp_signal 𝒱₀ ER (Rd m) (c : Thread nD τ) none (dst := (yp c : Thread nD τ)) (κ := K (yp c, .inr b))
      (d := true) (by exact (duties_eq m (yp c) (.inr b)).symm ▸ Finset.mem_univ _) ((amount_eq m (yp c) (.inr b) true).trans rfl) ()
      (O + tallyAt (bcell (xp c) b) () 1) (add_assoc _ _ _).symm) $$ [HO Hty Hpy]
  · isplitr; · iapply (inv_at m K (yp c, .inr b)); iexact HI
    isplitl [HO]; · iexact HO
    isplitl [Hty]; · iexact Hty
    isplitl [Hpy]; · iapply hpy; iexact Hpy
    iapply (reached_at m K (yp c, .inr b)); iexact HI
  iintro HO
  iapply (Rounds.wp_signal 𝒱₀ ER (Rd m) (c : Thread nD τ) none (dst := (xp c : Thread nD τ)) (κ := K (xp c, .inr b))
      (d := false) (by exact (duties_eq m (xp c) (.inr b)).symm ▸ Finset.mem_univ _) ((amount_eq m (xp c) (.inr b) false).trans rfl) ()
      O rfl) $$ [HO Htx Hpx]
  · isplitr; · iapply (inv_at m K (xp c, .inr b)); iexact HI
    isplitl [HO]; · iexact HO
    isplitl [Htx]; · iexact Htx
    isplitl [Hpx]; · iapply hpx; iexact Hpx
    iapply (reached_at m K (xp c, .inr b)); iexact HI
  iintro HO
  iapply (Rounds.wp_wait_rest_token 𝒱₀ ER (Rd m) (c : Thread nD τ) none (κ := K (c, .inr b))
      (wpE_semWait_eq 𝒱₀ (c : Thread nD τ) none Set.univ) (Set.mem_univ _) () (O := O) (W := W) (R := 0) (m := 0) (T := ∅)
      ((expect_eq m c (.inr b)).trans rfl).symm) $$ [Hc HO Hat]
  · isplitr; · iapply (inv_at m K (c, .inr b)); iexact HI
    isplitl [Hc]; · iexact Hc
    isplitl [HO]; · iexact HO
    isplitr; · iapply (mayWait c (csem (.inr b)) O (lv_kcell c (.inr b) ()).le hO); iapply (lev_at m K); iexact HI
    iexact Hat
  iintro ⟨HO, Hat, -, Hpay⟩
  have hr : bigSep ((Rd m).duties ((c : Thread nD τ), SemLoc.reg (barS b)) 0 \ ∅)
      (fun d => (Rd m).payload ((c : Thread nD τ), SemLoc.reg (barS b)) 0 d) = iprop(pay m c (.inr b) true ∗ pay m c (.inr b) false) := rest_bar m c b
  ihave Hp := (Entails.of_eq hr) $$ Hpay
  icases Hp with ⟨Hp, Hp'⟩
  imod (Rounds.cell_close ER (Rd m) (Set.mem_univ (K (c, .inr b))) (fun h => h) (R := 0 + 1) (duties_later m (bcell c b))) $$ [Hat] with Hz
  · isplitr; · iapply (inv_at m K (c, .inr b)); iexact HI
    iexact Hat
  rw [wp_ret]; imodintro
  iapply Hk
  isplitl [Hp]; · iexact Hp
  isplitl [Hp']; · iexact Hp'
  isplitl [Hz]; · iexact Hz
  iexists _; iexact HO

end Cert.KernelIdeal.Pf

end
-- ==== Proof.Body.lean ====
/-
A device's run, from the entry barrier to the exit barrier.
-/
module

public import proofs.«01_k».proof.Proof.Steps

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Cl → ℕ)

/-- What device `c` runs the body with beside the pipeline's buffers: the records, the barriers' gates, the buffers the
    entry barrier hands over, and per chunk the tokens, positions and credits of its transfers. -/
def startAt (c : Dev nD) : sProp 𝕄 :=
  iprop(recs m K ∗ gate c false ∗ gate c true ∗ rvAny (F := F) c ∗ omAny (F := F) c (xp c)
    ∗ (bigSep Finset.univ fun k => iprop(dutyTok ER (xcell c 0 k) 0 false ∗ dutyTok ER (xcell (yp c) 1 k) 0 false ∗ xsP m c k))
    ∗ (bigSep Finset.univ fun k => iprop((atPos ER (xcell c 1 k) 0 ∅ 0 ∗ cred (tallyAt (xcell c 1 k) () N))
        ∗ (dutyTok ER (xcell c 2 k) 0 false ∗ dutyTok ER (xcell (xp c) 3 k) 0 false ∗ atPos ER (xcell c 2 k) 0 ∅ 0)))
    ∗ omAny (F := F) c c
    ∗ (bigSep Finset.univ fun k => atPos ER (xcell c 0 k) 0 ∅ 0)
    ∗ (bigSep Finset.univ fun k => iprop(atPos ER (xcell c 3 k) 0 ∅ 0 ∗ cred (tallyAt (xcell c 3 k) () N))))
/-- What device `c` runs the body with. -/
def bodyPre (c : Dev nD) : sProp 𝕄 :=
  iprop(startAt m K c ∗ tools m c ∗ idle (F := F) c 0 ∗ idle (F := F) c 1 ∗ owesX c (O₀ c))

/-- What it leaves: every chunk of the operand's share, of the receive buffer and of the result with its cell, both
    barriers, the buffers of the pipeline; -/
def after (c : Dev nD) : sProp 𝕄 :=
  iprop((bigSep Finset.univ fun k => iprop(xsP m c k ∗ semVal (xcell c 0 k) 0))
    ∗ (bigSep Finset.univ fun k => stepB m c k)
    ∗ (bigSep Finset.univ fun k => done m c k)
    ∗ (bigSep Finset.univ fun k => iprop(omP c (xp c) k (outF m c) ∗ semVal (xcell c 3 k) 0))
    ∗ semVal (bcell c false) 0 ∗ semVal (bcell c true) 0
    ∗ tools m c ∗ idle (F := F) c 0 ∗ idle (F := F) c 1)
/-- and nothing owed. -/
def bodyPost (c : Dev nD) : sProp 𝕄 := iprop(after m c ∗ owesX c 0)

/-- What the first exchange's sends take, gathered per chunk; -/
theorem sendA_eq (c : Dev nD) :
    iprop((bigSep Finset.univ fun k => iprop(dutyTok ER (xcell c 0 k) 0 false ∗ dutyTok ER (xcell (yp c) 1 k) 0 false ∗ xsP m c k))
        ∗ rvAny (F := F) (yp c))
      ⊢ bigSep Finset.univ fun k => iprop(dutyTok ER (xcell c 0 k) 0 false ∗ dutyTok ER (xcell (yp c) 1 k) 0 false ∗ xsP m c k ∗ ∃ f, rvP (F := F) (yp c) k f) := by
  unfold rvAny
  rw [← bigSep_sep']
  refine bigSep_mono fun k _ => ?_
  · show (_ : sProp 𝕄) ⊢ _
    iintro ⟨⟨H1, H2, H3⟩, H4⟩
    isplitl [H1]; · iexact H1
    isplitl [H2]; · iexact H2
    isplitl [H3]; · iexact H3
    iexact H4

/-- and what the pipeline's chunks do. -/
theorem stepA_eq (c : Dev nD) :
    iprop((bigSep Finset.univ fun k => iprop((atPos ER (xcell c 1 k) 0 ∅ 0 ∗ cred (tallyAt (xcell c 1 k) () N))
        ∗ (dutyTok ER (xcell c 2 k) 0 false ∗ dutyTok ER (xcell (xp c) 3 k) 0 false ∗ atPos ER (xcell c 2 k) 0 ∅ 0)))
        ∗ omAny (F := F) (xp c) c ∗ omAny (F := F) c c)
      ⊢ bigSep Finset.univ fun k => stepA (F := F) c k := by
  unfold omAny stepA
  rw [← bigSep_sep', ← bigSep_sep']
  refine bigSep_mono fun k _ => ?_
  · show (_ : sProp 𝕄) ⊢ _
    iintro ⟨⟨H1, H2, H3, H4⟩, H5, H6⟩
    isplitl [H1]; · iexact H1
    isplitl [H2]; · iexact H2
    isplitl [H3]; · iexact H3
    isplitl [H4]; · iexact H4
    isplitl [H5]; · iexact H5
    iexact H6

/-- At the entry barrier a device hands its peer along y its receive buffer, -/
theorem pay_yp (c : Dev nD) : pay m (yp c) (.inr false) true = rvAny (F := F) c := by
  show rvAny (F := F) (yp (yp c)) = _; rw [yp_yp]
/-- and its peer along x the chunks of its result that peer computes. -/
theorem pay_xp (c : Dev nD) : pay m (xp c) (.inr false) false = omAny (F := F) c (xp c) := by
  show omAny (F := F) (xp (xp c)) (xp c) = _; rw [xp_xp]

/-- A device's run of the body. -/
theorem body_wp (c : Dev nD) (Q : PUnit → sProp 𝕄) :
    iprop(bodyPre m K c ∗ (bodyPost m c -∗ Q ⟨⟩)) ⊢ WP c (body c) Q := by
  unfold bodyPre startAt body WP
  iintro ⟨⟨⟨#HI, Hg, Hg', Hrv, Hox, Hs, Hst, Hoo, Ha0, Ha3⟩, Ht, Hi0, Hi1, HO⟩, Hk⟩
  rw [wp_bind]
  -- the entry barrier
  iapply (meet_wp m K c false (O₂ c 0 0) (Above.O₂ c 0 0 (by decide)))
  isplitr; · iexact HI
  isplitl [Hg]; · iexact Hg
  isplitl [Hrv]; · rw [pay_yp]; iexact Hrv
  isplitl [Hox]; · rw [pay_xp]; iexact Hox
  isplitl [HO]; · iexact HO
  rw [show pay m c (.inr false) true = rvAny (F := F) (yp c) from rfl, show pay m c (.inr false) false = omAny (F := F) (xp c) c from rfl]
  iintro ⟨Hrv, Hox, Hb, HO⟩
  rw [wp_bind]
  -- the first exchange, sent
  iapply (loop_wp c (send1 c) _ (fun k => cred (tallyAt (xcell c 0 k) () N)) (fun i => iprop(recs m K ∗ owesX c (O₂ c 0 i))) (fun k Q => by
    iintro ⟨HA, ⟨#HI, HO⟩, Hk⟩
    iapply (send1_wp m K c k (O₂ c 0 (k.val + 1)) Q)
    isplitr; · iexact HI
    isplitl [HA]; · iexact HA
    isplitl [HO]; · unfold O₂; rw [add_assoc _ (due (yp c) 1 _), ← due_succ]; iexact HO
    iintro ⟨Hc, HO⟩
    iapply Hk
    isplitl [Hc]; · iexact Hc
    isplitr; · iexact HI
    iexact HO))
  isplitl [Hs Hrv]
  · iapply (sendA_eq m c)
    isplitl [Hs]; · iexact Hs
    iexact Hrv
  isplitl [HO]
  · isplitr; · iexact HI
    iexact HO
  iintro ⟨Hc0, -, HO⟩
  rw [wp_bind]
  -- the pipeline
  iapply (loop_wp c (step c) (stepA (F := F) c) (stepB m c) (stepR m K c) (step_wp m K c))
  isplitl [Hst Hox Hoo]
  · iapply (stepA_eq c)
    isplitl [Hst]; · iexact Hst
    isplitl [Hox]; · iexact Hox
    iexact Hoo
  isplitl [Hi0 Hi1 Ht HO]
  · unfold stepR
    isplitr; · iexact HI
    isplitl [Hi0 Hi1]
    · rw [dones_zero, show slots m c 0 = iprop(idle (F := F) c 0 ∗ idle (F := F) c 1) from rfl]
      isplitl [Hi0 Hi1]
      · isplitl [Hi0] <;> iassumption
      iempintro
    isplitl [Ht]; · iexact Ht
    unfold O₂ Os; rw [due_end, add_zero]; iexact HO
  unfold stepR
  rw [show slots m c 32 = iprop(pend m c 30 ∗ pend m c 31) from rfl]
  iintro ⟨HB, -, ⟨⟨Hp0, Hp1⟩, Hd⟩, Ht, HO⟩
  rw [wp_bind]
  -- the first exchange, over
  iapply (loop_wp c (sent1 c) (fun k => iprop(atPos ER (xcell c 0 k) 0 ∅ 0 ∗ cred (tallyAt (xcell c 0 k) () N)))
    (fun k => iprop(xsP m c k ∗ semVal (xcell c 0 k) 0)) (fun i => iprop(recs m K ∗ owesX c (Os c 32))) (fun k Q => by
    iintro ⟨HA, ⟨#HI, HO⟩, Hk⟩
    iapply (sent1_wp m K c k (Os c 32) (Above.Os c _ (by decide)) Q)
    isplitr; · iexact HI
    isplitl [HA]; · iexact HA
    isplitl [HO]; · iexact HO
    iintro ⟨Hc, HO⟩
    iapply Hk
    isplitl [Hc]; · iexact Hc
    isplitr; · iexact HI
    iexact HO))
  isplitl [Ha0 Hc0]
  · rw [bigSep_sep']
    isplitl [Ha0]; · iexact Ha0
    iexact Hc0
  isplitl [HO]
  · isplitr; · iexact HI
    iexact HO
  iintro ⟨Hxs, -, HO⟩
  -- the last two chunks of the pipeline, over
  rw [wp_bind]
  iapply (free_wp m K c 30 (Os c 32) (Above.Os c _ (by decide)))
  isplitr; · iexact HI
  isplitl [Hp0]; · iexact Hp0
  isplitl [HO]; · iexact HO
  iintro ⟨Hi0, Hd0, HO⟩
  rw [wp_bind]
  iapply (free_wp m K c 31 (Os c 32) (Above.Os c _ (by decide)))
  isplitr; · iexact HI
  isplitl [Hp1]; · iexact Hp1
  isplitl [HO]; · iexact HO
  iintro ⟨Hi1, Hd1, HO⟩
  rw [wp_bind]
  -- the second exchange, arrived
  iapply (loop_wp c (recv2 c) (fun k => iprop(atPos ER (xcell c 3 k) 0 ∅ 0 ∗ cred (tallyAt (xcell c 3 k) () N)))
    (fun k => iprop(omP c (xp c) k (outF m c) ∗ semVal (xcell c 3 k) 0)) (fun i => iprop(recs m K ∗ owesX c (dueB c true))) (fun k Q => by
    iintro ⟨HA, ⟨#HI, HO⟩, Hk⟩
    iapply (recv2_wp m K c k (dueB c true) (Above.dueB c true (by decide)) Q)
    isplitr; · iexact HI
    isplitl [HA]; · iexact HA
    isplitl [HO]; · iexact HO
    iintro ⟨Hc, HO⟩
    iapply Hk
    isplitl [Hc]; · iexact Hc
    isplitr; · iexact HI
    iexact HO))
  isplitl [Ha3]; · iexact Ha3
  isplitl [HO]
  · isplitr; · iexact HI
    unfold Os; rw [due_end, add_zero]; iexact HO
  iintro ⟨Hom, -, HO⟩
  -- the exit barrier
  iapply (meet_wp m K c true 0 (Above.zero _))
  isplitr; · iexact HI
  isplitl [Hg']; · iexact Hg'
  isplitr; · iempintro
  isplitr; · iempintro
  isplitl [HO]; · rw [zero_add]; iexact HO
  iintro ⟨-, -, Hb', HO⟩
  iapply Hk
  unfold bodyPost after
  isplitr [HO]; rotate_left; · iexact HO
  isplitl [Hxs]; · iexact Hxs
  isplitl [HB]; · iexact HB
  isplitl [Hd Hd0 Hd1]
  · rw [fam_eq, show (bigSep (Finset.Ico 0 32) fun j => done m c (Fin.ofNat 32 j)) = dones m c (30 + 1 + 1) from rfl, dones_succ m c (30 + 1), dones_succ m c 30]
    isplitl [Hd1]; · iexact Hd1
    isplitl [Hd0]; · iexact Hd0
    iexact Hd
  isplitl [Hom]; · iexact Hom
  isplitl [Hb]; · iexact Hb
  isplitl [Hb']; · iexact Hb'
  isplitl [Ht]; · iexact Ht
  isplitl [Hi0]; · iexact Hi0
  iexact Hi1

end Cert.KernelIdeal.Pf

end
-- ==== Proof.Split.lean ====
/-
The buffers cut into chunks at the start, and put together at the end.
-/
module

public import proofs.«01_k».proof.Proof.Body

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-- A device's receive buffer, chunk by chunk. -/
theorem rv_split (c : Dev nD) (f : Buf (Elt F) ((c : Thread nD τ).loc main_v1_1)) :
    ((c : Thread nD τ).loc main_v1_1 ↦{fullShare} f : sProp 𝕄) ⊢ rvAny c := by
  rw [Ring.pointsTo_blocks (ℓ := (c : Thread nD τ).loc main_v1_1) rvS rv_disj rv_cover f]
  unfold rvAny rvP
  refine bigSep_mono fun k _ => ?_
  · show (_ : sProp 𝕄) ⊢ _
    iintro H
    iexists f; iexact H

/-- A device's result in the chunks it computes and those its peer along x does. -/
theorem om_split (c : Dev nD) (f : Buf (Elt F) ((c : Thread nD τ).loc main_v1_0)) :
    ((c : Thread nD τ).loc main_v1_0 ↦{fullShare} f : sProp 𝕄)
      = iprop((bigSep Finset.univ fun k => omP c c k f) ∗ (bigSep Finset.univ fun k => omP c (xp c) k f)) := by
  have h : ((c : Thread nD τ).loc main_v1_0 ↦[(Finset.univ.biUnion fun k => omS c k) ∪ (Finset.univ.biUnion fun k => omS (xp c) k)]{fullShare} f : sProp 𝕄)
      = iprop(((c : Thread nD τ).loc main_v1_0 ↦[Finset.univ.biUnion fun k => omS c k]{fullShare} f)
        ∗ ((c : Thread nD τ).loc main_v1_0 ↦[Finset.univ.biUnion fun k => omS (xp c) k]{fullShare} f)) :=
    BI.equiv_iff.mp ⟨(pointsTo_union (om_xp_disj c)).1, (pointsTo_union (om_xp_disj c)).2⟩
  rw [om_cover c] at h
  exact h.trans (congrArg₂ (fun A B : sProp 𝕄 => iprop(A ∗ B))
    (pointsTo_biUnion (ℓ := (c : Thread nD τ).loc main_v1_0) Finset.univ (fun k => omS c k) (fun k _ k' _ => om_disj c k k'))
    (pointsTo_biUnion (ℓ := (c : Thread nD τ).loc main_v1_0) Finset.univ (fun k => omS (xp c) k) (fun k _ k' _ => om_disj (xp c) k k')))

/-- The same, each chunk at any contents. -/
theorem om_any (c : Dev nD) (f : Buf (Elt F) ((c : Thread nD τ).loc main_v1_0)) :
    ((c : Thread nD τ).loc main_v1_0 ↦{fullShare} f : sProp 𝕄) ⊢ iprop(omAny (F := F) c c ∗ omAny (F := F) c (xp c)) := by
  rw [om_split]
  unfold omAny
  refine BIClass.sep_mono (bigSep_mono fun k _ => ?_) (bigSep_mono fun k _ => ?_)
  · show (_ : sProp 𝕄) ⊢ _
    iintro H
    iexists f; iexact H
  · show (_ : sProp 𝕄) ⊢ _
    iintro H
    iexists f; iexact H

/-- The operand in two shares: of the left one the chunks sent along y, the right one whole. -/
theorem arg_split (c : Dev nD) :
    ((c : Thread nD τ).loc main_arg0 ↦{fullShare} xin m c : sProp 𝕄)
      ⊢ iprop((bigSep Finset.univ fun k => xsP m c k) ∗ ((c : Thread nD τ).loc main_arg0 ↦{fullShare.right} xin m c)) := by
  have h1 := (pointsTo_share (Ix := Unit) (Name := ℕ) (U := UU) (Lvl := ℕ) (ℓ := (c : Thread nD τ).loc main_arg0) (I := Finset.univ) (f := xin m c)
    (PosShare.mem_left_op_right fullShare)).1
  have h2 := (pointsTo_split_subset (Ix := Unit) (Name := ℕ) (U := UU) (Lvl := ℕ) (ℓ := (c : Thread nD τ).loc main_arg0) (q := fullShare.left) (f := xin m c)
    (Finset.subset_univ (Finset.univ.biUnion fun k => xsS c k))).1
  have h3 : ((c : Thread nD τ).loc main_arg0 ↦[Finset.univ.biUnion fun k => xsS c k]{fullShare.left} xin m c : sProp 𝕄)
      ⊢ bigSep Finset.univ fun k => xsP m c k :=
    Entails.of_eq (pointsTo_biUnion (ℓ := (c : Thread nD τ).loc main_arg0) Finset.univ (fun k => xsS c k) (fun k _ k' _ => xs_disj c k k'))
  iintro H
  ihave H := h1 $$ H
  icases H with ⟨Hl, Hr⟩
  ihave H := h2 $$ Hl
  icases H with ⟨Hl, -⟩
  isplitl [Hl]; · iapply h3; iexact Hl
  iexact Hr

/-- The two slots, as a family. -/
theorem cs_disj' (j j' : Fin 2) (h : j ≠ j') : Disjoint (csS j) (csS j') := by
  fin_cases j <;> fin_cases j'
  · exact absurd rfl h
  · exact cs_disj
  · exact cs_disj.symm
  · exact absurd rfl h
theorem cs_cover' : (Finset.univ.biUnion fun j => csS j) = Finset.univ := by
  refine Finset.eq_univ_iff_forall.mpr fun i => Finset.mem_biUnion.mpr ?_
  rcases Finset.mem_union.mp (Finset.eq_univ_iff_forall.mp cs_cover i) with h | h
  · exact ⟨0, Finset.mem_univ _, h⟩
  · exact ⟨1, Finset.mem_univ _, h⟩

/-- The two-slot buffer slot by slot, -/
theorem cs_split (c : Dev nD) (f : Buf (Elt F) ((c : Thread nD τ).loc cc0_scratch9)) :
    ((c : Thread nD τ).loc cc0_scratch9 ↦{fullShare} f : sProp 𝕄)
      ⊢ iprop((∃ f, csP (F := F) c 0 fullShare f) ∗ (∃ f, csP (F := F) c 1 fullShare f)) := by
  rw [Ring.pointsTo_blocks (ℓ := (c : Thread nD τ).loc cc0_scratch9) csS cs_disj' cs_cover' f, bigSep_univ_two]
  unfold csP
  iintro ⟨H0, H1⟩
  isplitl [H0]; · iexists f; iexact H0
  iexists f; iexact H1
/-- and whole again. -/
theorem cs_join (c : Dev nD) (f₀ : Buf (Elt F) ((c : Thread nD τ).loc cc0_scratch9)) :
    iprop((∃ f, csP (F := F) c 0 fullShare f) ∗ (∃ f, csP (F := F) c 1 fullShare f))
      ⊢ iprop(∃ f : Buf (Elt F) ((c : Thread nD τ).loc cc0_scratch9), (c : Thread nD τ).loc cc0_scratch9 ↦{fullShare} f) := by
  have h := Ring.pointsTo_blocks_join_exists (Ix := Unit) (Name := ℕ) (U := UU) (Lvl := ℕ) (ℓ := (c : Thread nD τ).loc cc0_scratch9) csS cs_disj' cs_cover' (q := fullShare) f₀
  rw [bigSep_univ_two] at h
  exact h

end Cert.KernelIdeal.Pf

end
-- ==== Proof.Ghost.lean ====
/-
The cells, tokens and credits dealt at launch.
-/
module

public import proofs.«01_k».proof.Proof.Split
public import Idealize.ShloMosaic.Lib.Pipeline.CollectiveSegs

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-- A family over four, and one over the two barriers, written out. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_bool (Φ : Bool → sProp 𝕄) : bigSep Finset.univ Φ = iprop(Φ false ∗ Φ true) :=
  bigSep_univ_eq_bigSepL [false, true] (by decide) (by decide) Φ
/-- A family over a device's cells: the four transfers', per chunk, and the two barriers'. -/
theorem bigSep_cl (Φ : Cl → sProp 𝕄) : bigSep Finset.univ Φ
    = iprop(((bigSep Finset.univ fun k => Φ (.inl (0, k))) ∗ (bigSep Finset.univ fun k => Φ (.inl (1, k)))
        ∗ (bigSep Finset.univ fun k => Φ (.inl (2, k))) ∗ (bigSep Finset.univ fun k => Φ (.inl (3, k))))
      ∗ Φ (.inr false) ∗ Φ (.inr true)) := by
  refine (bigSep_univ_sum Φ).trans (congrArg₂ (fun A B : sProp 𝕄 => iprop(A ∗ B)) ?_ (bigSep_bool _))
  rw [bigSep_univ_prod, bigSep_fin4]

/-! ## The semaphores -/

/-- The cells of the copies a device makes on its own. -/
def lsem (j : Fin 4) : DmaSem sig := match j with | 0 => sa | 1 => sb | 2 => scs 0 | 3 => scs 1
/-- Their numbers. -/
theorem lsem_val (j : Fin 4) : (lsem j).val = 128 + j.val := by revert j; decide

/-- The kernel's own semaphores: the transfers', the copies', the exit barrier's. -/
abbrev Own : Type := (Fin 4 × Fin 32) ⊕ (Fin 4 ⊕ Unit)
def osem : Own → SemLoc sig
  | .inl (q, k) => csem (.inl (q, k))
  | .inr (.inl j) => .dma (lsem j)
  | .inr (.inr _) => csem (.inr true)

/-- They are distinct, -/
theorem osem_injective : Function.Injective osem := by
  have hd (s s' : DmaSem sig) (h : SemLoc.dma s = (SemLoc.dma s' : SemLoc sig)) : s.val = s'.val := by
    injection h with h; rw [h]
  rintro (⟨q, k⟩ | j | u) (⟨q', k'⟩ | j' | u') h
  · exact congrArg Sum.inl (Sum.inl.inj (csem_injective h))
  · have := hd (xferS q k) (lsem j') h; rw [xferS_val, lsem_val] at this; omega
  · exact absurd (csem_injective (a₁ := .inl (q, k)) (a₂ := .inr true) h) (fun h => by cases h)
  · have := hd (lsem j) (xferS q' k') h; rw [xferS_val, lsem_val] at this; omega
  · have := hd (lsem j) (lsem j') h; rw [lsem_val, lsem_val] at this
    rw [show j = j' from Fin.ext (by omega)]
  · exact absurd h (by intro h; cases h)
  · exact absurd (csem_injective (a₁ := .inr true) (a₂ := .inl (q', k')) h) (fun h => by cases h)
  · exact absurd h (by intro h; cases h)
  · rfl

/-- and of the kernel's scope; -/
theorem scoped_dma : ∀ s : DmaSem sig, (SemLoc.dma s : SemLoc sig).isScoped .tc = true := by decide

/-- what the launch asks of them. -/
theorem ownSemFacts : Pipeline.OwnSemFacts cfg0.spec osem where
  isScoped := by
    rintro (⟨q, k⟩ | j | u)
    · exact scoped_dma _
    · exact scoped_dma _
    · rfl
  inj := osem_injective
  disj := fun _ w => w.elim0

/-- The copies' cells at zero. -/
def locals (c : Dev nD) : sProp 𝕄 := bigSep Finset.univ fun j : Fin 4 => semVal ((c : Thread nD τ), SemLoc.dma (lsem j)) 0

/-- The cells of the protocol and of the copies are all of a device's semaphores. -/
theorem sems0_eq (c : Dev nD) :
    iprop(Pipeline.ownSems0 (Ix := Unit) (Name := ℕ) (U := UU) (Lvl := ℕ) (Val := Elt F) (τ := τ) osem c ∗ unscopedSems0 c)
      = iprop((bigSep Finset.univ fun x : Cl => semVal (kcell (c, x)) 0) ∗ locals c : sProp 𝕄) := by
  have hu : (unscopedSems0 c : sProp 𝕄) = semVal (bcell c false) 0 := by
    unfold unscopedSems0; rw [bigSep_eq_bigSepL_of_eq [SemLoc.reg bar] (by decide) (by decide)]; rfl
  have ho : (Pipeline.ownSems0 (Ix := Unit) (Name := ℕ) (U := UU) (Lvl := ℕ) (Val := Elt F) (τ := τ) osem c : sProp 𝕄)
      = iprop((bigSep Finset.univ fun x : Fin 4 × Fin 32 => semVal (kcell (c, .inl x)) 0) ∗ locals c ∗ semVal (bcell c true) 0) := by
    unfold Pipeline.ownSems0
    refine (bigSep_univ_sum _).trans (congrArg₂ (fun A B : sProp 𝕄 => iprop(A ∗ B)) rfl
      ((bigSep_univ_sum _).trans (congrArg₂ (fun A B : sProp 𝕄 => iprop(A ∗ B)) rfl ?_)))
    exact bigSep_singleton (M := 𝕄)
  have hc : (bigSep Finset.univ fun x : Cl => (semVal (kcell (c, x)) 0 : sProp 𝕄))
      = iprop((bigSep Finset.univ fun x : Fin 4 × Fin 32 => semVal (kcell (c, .inl x)) 0) ∗ semVal (bcell c false) 0 ∗ semVal (bcell c true) 0) :=
    (bigSep_univ_sum _).trans (congrArg₂ (fun A B : sProp 𝕄 => iprop(A ∗ B)) rfl (bigSep_bool _))
  rw [hu, ho, hc]
  refine BI.equiv_iff.mp ⟨?_, ?_⟩
  · show (_ : sProp 𝕄) ⊢ _
    iintro ⟨⟨H, Hl, Ht⟩, Hf⟩
    isplitr [Hl]
    · isplitl [H]; · iexact H
      isplitl [Hf]; · iexact Hf
      iexact Ht
    iexact Hl
  · show (_ : sProp 𝕄) ⊢ _
    iintro ⟨⟨H, Hf, Ht⟩, Hl⟩
    isplitr [Hf]
    · isplitl [H]; · iexact H
      isplitl [Hl]; · iexact Hl
      iexact Ht
    iexact Hf

/-! ## The tokens -/

/-- The protocol's cells. -/
def ringCells : Finset (GSem nD τ sig) := Finset.univ.map ⟨kcell, kcell_injective⟩

/-- A device's duties: one of each cell, and the barriers' second. -/
abbrev Ty : Type := Cl ⊕ Bool
def tokOf (cy : Dev nD × Ty) : GSem nD τ sig × ℕ × Bool := match cy.2 with
  | .inl x => (kcell (cy.1, x), 0, false)
  | .inr b => (bcell cy.1 b, 0, true)
/-- Distinct duties have distinct tokens. -/
theorem tokOf_injective : Function.Injective tokOf := by
  rintro ⟨c, x | b⟩ ⟨c', x' | b'⟩ h
  · obtain ⟨h1, h2⟩ := Prod.mk.inj (kcell_injective (congrArg Prod.fst h)); exact congrArg₂ Prod.mk h1 (congrArg Sum.inl h2)
  · exact absurd (congrArg (fun t => t.2.2) h) (by simp [tokOf])
  · exact absurd (congrArg (fun t => t.2.2) h) (by simp [tokOf])
  · obtain ⟨h1, h2⟩ := Prod.mk.inj (kcell_injective (congrArg Prod.fst h)); exact congrArg₂ Prod.mk h1 (congrArg Sum.inr (Sum.inr.inj h2))
/-- The tokens minted. -/
def ringToks : Finset (GSem nD τ sig × ℕ × Bool) := Finset.univ.map ⟨tokOf, tokOf_injective⟩

/-- The device that does a device's duty. -/
def who (y : Ty) (c : Dev nD) : Dev nD := match y with
  | .inl (.inl (0, _)) => c
  | .inl (.inl (1, _)) => yp c
  | .inl (.inl (2, _)) => c
  | .inl (.inl (3, _)) => xp c
  | .inl (.inr _) => xp c
  | .inr _ => yp c
/-- Doing is mutual. -/
theorem who_who (y : Ty) (c : Dev nD) : who y (who y c) = c := by
  match y with
  | .inl (.inl (0, _)) => rfl
  | .inl (.inl (1, _)) => exact yp_yp c
  | .inl (.inl (2, _)) => rfl
  | .inl (.inl (3, _)) => exact xp_xp c
  | .inl (.inr _) => exact xp_xp c
  | .inr _ => exact yp_yp c
/-- The deal: each token from the device its cell is on to the one that spends it. -/
def deal : Dev nD × Ty ≃ Dev nD × Ty :=
  Function.Involutive.toPerm (fun cy => (who cy.2 cy.1, cy.2)) fun cy => Prod.ext (who_who cy.2 cy.1) rfl

/-- A token. -/
def tok (cy : Dev nD × Ty) : sProp 𝕄 := dutyTok ER (tokOf cy).1 (tokOf cy).2.1 (tokOf cy).2.2
/-- The tokens of a device's own duties, and of those it does. -/
def toks (c : Dev nD) : sProp 𝕄 := bigSep Finset.univ fun y : Ty => tok (F := F) (c, y)
def payToks (c : Dev nD) : sProp 𝕄 := bigSep Finset.univ fun y : Ty => tok (F := F) (who y c, y)

/-- Dealing loses nothing. -/
theorem toks_around : (bigSep Finset.univ fun c : Dev nD => toks (F := F) c) = bigSep Finset.univ fun c : Dev nD => payToks (F := F) c := by
  unfold toks payToks
  rw [← bigSep_univ_prod (fun cy : Dev nD × Ty => tok (F := F) cy), bigSep_univ_equiv deal, bigSep_univ_prod]
  rfl

/-- The tokens a device spends, exchange by exchange. -/
theorem payToks_eq (c : Dev nD) : payToks (F := F) c
    = iprop((((bigSep Finset.univ fun k => dutyTok ER (xcell c 0 k) 0 false) ∗ (bigSep Finset.univ fun k => dutyTok ER (xcell (yp c) 1 k) 0 false)
        ∗ (bigSep Finset.univ fun k => dutyTok ER (xcell c 2 k) 0 false) ∗ (bigSep Finset.univ fun k => dutyTok ER (xcell (xp c) 3 k) 0 false))
      ∗ dutyTok ER (bcell (xp c) false) 0 false ∗ dutyTok ER (bcell (xp c) true) 0 false)
      ∗ dutyTok ER (bcell (yp c) false) 0 true ∗ dutyTok ER (bcell (yp c) true) 0 true) := by
  unfold payToks
  exact (bigSep_univ_sum _).trans (congrArg₂ (fun A B : sProp 𝕄 => iprop(A ∗ B)) (bigSep_cl _) (bigSep_bool _))

/-! ## The ghost state dealt at launch -/

/-- The ghost state at launch. -/
def u₀ : UU :=
  (initOf (Pipeline.cells cfgs cellOf_inj) (Pipeline.launchToks cfgs cellOf_inj), initOf ringCells ringToks, (1 : Counters))

/-- What the launch deals a device: its cells' rounds, its positions, its own duties' tokens. -/
def G (c : Dev nD) : sProp 𝕄 :=
  iprop((bigSep Finset.univ fun x : Cl => roundState ER (Rd m) (kcell (c, x)) 0)
    ∗ (bigSep Finset.univ fun x : Cl => iprop(atPos ER (kcell (c, x)) 0 ∅ 0 ∗ reached ER (kcell (c, x)) 0)) ∗ toks (F := F) c)

/-- The protocol's part of it, dealt. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun x : Cl => Φ (kcell (c, x)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The cells' invariants, and that round 0 of each is reached. -/
def recs₀ (K : Dev nD × Cl → ℕ) : sProp 𝕄 :=
  iprop((bigSep Finset.univ fun cx : Dev nD × Cl => cellInv ER (Rd m) (K cx) (kcell cx))
    ∗ (bigSep Finset.univ fun cx : Dev nD × Cl => reached ER (kcell cx) 0))
instance recs₀_persistent (K : Dev nD × Cl → ℕ) : BI.Persistent (recs₀ m K) := by unfold recs₀; infer_instance

/-- What stays with a device: its positions, the tokens it spends, its copies' cells. -/
def linear (c : Dev nD) : sProp 𝕄 :=
  iprop((bigSep Finset.univ fun x : Cl => atPos ER (kcell (c, x)) 0 ∅ 0) ∗ payToks (F := F) c ∗ locals (F := F) c)
/-- What each device starts from. -/
def G' (c : Dev nD) : sProp 𝕄 := iprop(∃ K, recs₀ m K ∗ linear (F := F) c)

/-- A device's cells' invariants, made from its semaphores. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Cl => iprop(∃ κ : ℕ, cellInv ER (Rd m) κ (kcell (c, x))))
          ∗ (bigSep Finset.univ fun x : Cl => iprop(atPos ER (kcell (c, x)) 0 ∅ 0 ∗ reached ER (kcell (c, x)) 0))
          ∗ toks (F := F) c ∗ locals (F := F) c) := by
  unfold G
  iintro ⟨Hos, Hus, Hst, Hat, Htok⟩
  ihave Hv := (Entails.of_eq (sems0_eq (F := F) c)) $$ [Hos Hus]
  · isplitl [Hos] <;> iassumption
  icases Hv with ⟨Hv, Hl⟩
  imod (show iprop((bigSep Finset.univ fun x : Cl => semVal (kcell (c, x)) 0) ∗ bigSep Finset.univ fun x : Cl => roundState ER (Rd m) (kcell (c, x)) 0)
      ⊢ (|={Set.univ}=> bigSep Finset.univ fun x : Cl => iprop(∃ κ : ℕ, cellInv ER (Rd m) κ (kcell (c, x))) : sProp 𝕄) from by
        rw [← bigSep_sep']
        exact (bigSep_mono fun x _ => (Rounds.body_intro ER (Rd m) (kcell (c, x))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-- A lasting fact goes to every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What each device starts from, at given names. -/
theorem ghost_intro (K : Dev nD × Cl → ℕ) (c : Dev nD) : iprop(recs₀ m K ∗ linear (F := F) c) ⊢ G' m c := by
  unfold G'
  iintro ⟨#HI, H⟩
  iexists K
  isplitr; · iexact HI
  iexact H

/-- The records shared, the tokens dealt. -/
theorem regroup :
    (bigSep Finset.univ fun c : Dev nD => iprop((bigSep Finset.univ fun x : Cl => iprop(∃ κ : ℕ, cellInv ER (Rd m) κ (kcell (c, x))))
          ∗ (bigSep Finset.univ fun x : Cl => iprop(atPos ER (kcell (c, x)) 0 ∅ 0 ∗ reached ER (kcell (c, x)) 0))
          ∗ toks (F := F) c ∗ locals (F := F) c) : sProp 𝕄)
      ⊢ bigSep Finset.univ (G' m) := by
  rw [bigSep_sep', bigSep_sep', bigSep_sep', ← bigSep_univ_prod (fun cx : Dev nD × Cl => iprop(∃ κ : ℕ, cellInv ER (Rd m) κ (kcell cx))),
    bigSep_congr (s := Finset.univ) (fun (c : Dev nD) _ => bigSep_sep' Finset.univ (fun x : Cl => (atPos ER (kcell (c, x)) 0 ∅ 0 : sProp 𝕄)) (fun x => reached ER (kcell (c, x)) 0)),
    bigSep_sep', ← bigSep_univ_prod (fun cx : Dev nD × Cl => (reached ER (kcell cx) 0 : sProp 𝕄)), toks_around]
  iintro ⟨HI, ⟨Hat, #HR⟩, Htok, Hl⟩
  ihave HK := (BI.bigSep_exists_pi Finset.univ (fun (cx : Dev nD × Cl) (κ : ℕ) => (cellInv ER (Rd m) κ (kcell cx) : sProp 𝕄))) $$ HI
  icases HK with ⟨%K, #HI⟩
  iapply (bigSep_with_persistent (R := recs₀ m K) fun c _ => ghost_intro m K c)
  isplitr
  · unfold recs₀; isplitl; · iexact HI
    iexact HR
  · unfold linear
    rw [bigSep_sep', bigSep_sep']
    isplitl [Hat]; · iexact Hat
    isplitl [Htok]; · iexact Htok
    iexact Hl

/-- All devices' semaphores at once make what each device starts from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits dealt at launch -/

/-- What the devices owe a device's transfer cells is its credit there, -/
theorem cred_due (c : Dev nD) (q : Fin 4) (f : Dev nD → Dev nD) (hf : ∀ d, f (f d) = d) :
    (Pipeline.launchCred (fun d => due (f d) q 0) c : sProp 𝕄) ⊢ bigSep Finset.univ fun k => cred (tallyAt (xcell c q k) () N) := by
  rw [fam_eq]
  unfold due
  rw [Pipeline.launchCred_sum (Finset.Ico 0 32) (fun j d => tallyAt (xcell (f d) q (Fin.ofNat 32 j)) () N) c]
  exact bigSep_mono fun j _ => Pipeline.launchCred_tallyAt (csem (.inl (q, Fin.ofNat 32 j))) f f hf hf () N c

/-- and likewise its barriers'. -/
theorem cred_bar (c : Dev nD) (b : Bool) :
    (Pipeline.launchCred (fun d => dueB d b) c : sProp 𝕄) ⊢ cred (tallyAt (bcell c b) () 2) := by
  unfold dueB
  rw [Pipeline.launchCred_add (fun d => tallyAt (bcell (xp d) b) () 1) (fun d => tallyAt (bcell (yp d) b) () 1) c,
    show (2 : ℕ) = 1 + 1 from rfl, ← tallyAt_add]
  exact (BIClass.sep_mono (Pipeline.launchCred_tallyAt (csem (.inr b)) xp xp xp_xp xp_xp () 1 c)
    (Pipeline.launchCred_tallyAt (csem (.inr b)) yp yp yp_yp yp_yp () 1 c)).trans (cred_add _ _).2

/-- A device's credits. -/
theorem creds (c : Dev nD) : (Pipeline.launchCred O₀ c : sProp 𝕄)
    ⊢ iprop(((cred (tallyAt (bcell c true) () 2) ∗ (bigSep Finset.univ fun k => cred (tallyAt (xcell c 3 k) () N)))
        ∗ (bigSep Finset.univ fun k => cred (tallyAt (xcell c 1 k) () N))) ∗ cred (tallyAt (bcell c false) () 2)) := by
  show (Pipeline.launchCred (fun d => ((dueB d true + due (xp d) 3 0) + due (yp d) 1 0) + dueB d false) c : sProp 𝕄) ⊢ _
  rw [Pipeline.launchCred_add (fun d => (dueB d true + due (xp d) 3 0) + due (yp d) 1 0) (fun d => dueB d false) c,
    Pipeline.launchCred_add (fun d => dueB d true + due (xp d) 3 0) (fun d => due (yp d) 1 0) c,
    Pipeline.launchCred_add (fun d => dueB d true) (fun d => due (xp d) 3 0) c]
  exact BIClass.sep_mono (BIClass.sep_mono (BIClass.sep_mono (cred_bar c true) (cred_due c 3 xp xp_xp)) (cred_due c 1 yp yp_yp)) (cred_bar c false)

end Cert.KernelIdeal.Pf

end
-- ==== Proof.Run.lean ====
/-
The run of the whole program: every device's start, end, and what its memory then holds.
-/
module

public import proofs.«01_k».proof.Proof.Ghost
public import Idealize.ShloMosaic.Lib.Quiescent

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## What a device starts from and ends with -/

/-- The operand's share the pipeline reads from. -/
def argR (c : Dev nD) : sProp 𝕄 := (c : Thread nD τ).loc main_arg0 ↦{fullShare.right} xin m c

/-- What a device has before its scoped buffers are opened, -/
def X (c : Dev nD) : sProp 𝕄 := iprop((∃ K, startAt m K c) ∗ argR m c ∗ locals (F := F) c)
/-- and when its body starts. -/
def Φ₀ (c : Dev nD) : sProp 𝕄 := iprop((∃ K, startAt m K c) ∗ tools m c ∗ idle (F := F) c 0 ∗ idle (F := F) c 1)
/-- What it ends with: the barrier's counter zero, the operand as it was, the result at its contents. -/
def Y (c : Dev nD) : sProp 𝕄 :=
  iprop(unscopedSems0 c ∗ argR m c ∗ ((c : Thread nD τ).loc main_v1_0 ↦{fullShare} outF m c))

/-- The ghost state and the buffers, gathered chunk by chunk. -/
theorem start_of (K : Dev nD × Cl → ℕ) (c : Dev nD) :
    iprop((recs₀ m K ∗ (bigSep Finset.univ fun x : Cl => atPos ER (kcell (c, x)) 0 ∅ 0) ∗ payToks (F := F) c)
        ∗ levAts L lv ∗ Pipeline.launchCred O₀ c ∗ rvAny (F := F) c ∗ (omAny (F := F) c c ∗ omAny (F := F) c (xp c))
        ∗ bigSep Finset.univ fun k => xsP m c k)
      ⊢ startAt m K c := by
  rw [payToks_eq, bigSep_cl]
  unfold startAt recs recs₀ gate
  iintro ⟨⟨⟨HI, HR⟩, ⟨⟨A0, A1, A2, A3⟩, Af, At⟩, ⟨⟨T0, T1, T2, T3⟩, Txf, Txt⟩, Tyf, Tyt⟩, Hlev, Hcr, Hrv, ⟨Hom, Homx⟩, Hxs⟩
  ihave Hc := (creds (F := F) c) $$ Hcr
  icases Hc with ⟨⟨⟨Ct, C3⟩, C1⟩, Cf⟩
  simp only [bigSep_sep']
  isplitl [HI HR Hlev]
  · isplitl [HI]; · iexact HI
    isplitl [HR]; · iexact HR
    iexact Hlev
  isplitl [Tyf Txf Af Cf]
  · isplitl [Tyf]; · iexact Tyf
    isplitl [Txf]; · iexact Txf
    isplitl [Af]; · iexact Af
    iexact Cf
  isplitl [Tyt Txt At Ct]
  · isplitl [Tyt]; · iexact Tyt
    isplitl [Txt]; · iexact Txt
    isplitl [At]; · iexact At
    iexact Ct
  isplitl [Hrv]; · iexact Hrv
  isplitl [Homx]; · iexact Homx
  isplitl [T0 T1 Hxs]
  · isplitl [T0]; · iexact T0
    isplitl [T1]; · iexact T1
    iexact Hxs
  isplitl [A1 C1 T2 T3 A2]
  · isplitl [A1 C1]
    · isplitl [A1]; · iexact A1
      iexact C1
    isplitl [T2]; · iexact T2
    isplitl [T3]; · iexact T3
    iexact A2
  isplitl [Hom]; · iexact Hom
  isplitl [A0]; · iexact A0
  isplitl [A3]; · iexact A3
  iexact C3

/-- What a device has once the launch has dealt it everything. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G' linear X argR
  iintro ⟨⟨Ha, Ho, Hv⟩, Hlev, Hcr, -, ⟨%K, HI, Hat, Ht, Hl⟩⟩
  ihave Hrv := (rv_split (F := F) c (m ((c : Thread nD τ).loc main_v1_1))) $$ Hv
  ihave Hom := (om_any (F := F) c (m ((c : Thread nD τ).loc main_v1_0))) $$ Ho
  ihave Hxs := (arg_split m c) $$ [Ha]
  · iexact Ha
  icases Hxs with ⟨Hxs, Har⟩
  imodintro
  isplitl
  · isplitr [Har Hl]
    · iexists K
      iapply (start_of m K c)
      isplitl [HI Hat Ht]
      · isplitl [HI]; · iexact HI
        isplitl [Hat]; · iexact Hat
        iexact Ht
      isplitl [Hlev]; · iexact Hlev
      isplitl [Hcr]; · iexact Hcr
      isplitl [Hrv]; · iexact Hrv
      isplitl [Hom]; · iexact Hom
      iexact Hxs
    isplitl [Har]; · iexact Har
    iexact Hl
  · iempintro

/-- A whole buffer, as the body names it. -/
theorem whole_eq (c : Dev nD) (b : Ref sig .tc) (f : Buf (Elt F) ((c : Thread nD τ).loc b)) :
    ((Memref.whole b).view.loc (c : Thread nD τ) ↦[(Memref.whole b).view.set]{fullShare} f : sProp 𝕄) = ((c : Thread nD τ).loc b ↦{fullShare} f) := by
  simp only [Memref.view_whole, View.set_whole]

/-- The pipeline's buffers and cells: the two staging buffers and the two slots. -/
theorem tools_eq (c : Dev nD) :
    iprop(tools m c ∗ idle (F := F) c 0 ∗ idle (F := F) c 1)
      ⊣⊢ iprop(((∃ f : Buf (Elt F) ((c : Thread nD τ).loc cc0_scratch7), (c : Thread nD τ).loc cc0_scratch7 ↦{fullShare} f)
          ∗ (∃ f : Buf (Elt F) ((c : Thread nD τ).loc cc0_scratch8), (c : Thread nD τ).loc cc0_scratch8 ↦{fullShare} f)
          ∗ (∃ f, csP (F := F) c 0 fullShare f) ∗ (∃ f, csP (F := F) c 1 fullShare f))
        ∗ argR m c ∗ locals (F := F) c) := by
  have hl : locals (F := F) c = iprop(semVal ((c : Thread nD τ), SemLoc.dma sa) 0 ∗ semVal ((c : Thread nD τ), SemLoc.dma sb) 0
      ∗ semVal ((c : Thread nD τ), SemLoc.dma (scs 0)) 0 ∗ semVal ((c : Thread nD τ), SemLoc.dma (scs 1)) 0) := bigSep_fin4 _
  have ha : (fun f => (VA.view.loc (c : Thread nD τ) ↦[VA.view.set]{fullShare} f : sProp 𝕄)) = fun f => ((c : Thread nD τ).loc cc0_scratch7 ↦{fullShare} f) :=
    funext fun f => whole_eq c cc0_scratch7 f
  have hb : (fun f => (VB.view.loc (c : Thread nD τ) ↦[VB.view.set]{fullShare} f : sProp 𝕄)) = fun f => ((c : Thread nD τ).loc cc0_scratch8 ↦{fullShare} f) :=
    funext fun f => whole_eq c cc0_scratch8 f
  rw [hl]
  unfold tools idle argR
  rw [ha, hb]
  constructor
  · show (_ : sProp 𝕄) ⊢ _
    iintro ⟨⟨HA, HB, Ha, Hb, Hx⟩, ⟨H0, H0'⟩, H1, H1'⟩
    isplitl [HA HB H0 H1]
    · isplitl [HA]; · iexact HA
      isplitl [HB]; · iexact HB
      isplitl [H0]; · iexact H0
      iexact H1
    isplitl [Hx]; · iexact Hx
    isplitl [Ha]; · iexact Ha
    isplitl [Hb]; · iexact Hb
    isplitl [H0']; · iexact H0'
    iexact H1'
  · show (_ : sProp 𝕄) ⊢ _
    iintro ⟨⟨HA, HB, H0, H1⟩, Hx, Ha, Hb, H0', H1'⟩
    isplitl [HA HB Ha Hb Hx]
    · isplitl [HA]; · iexact HA
      isplitl [HB]; · iexact HB
      isplitl [Ha]; · iexact Ha
      isplitl [Hb]; · iexact Hb
      iexact Hx
    isplitl [H0 H0']
    · isplitl [H0]; · iexact H0
      iexact H0'
    isplitl [H1]; · iexact H1
    iexact H1'

/-! ## The pipeline's data -/

/-- The one kernel call: no windowed array, the two states of its body, what is owed before it. -/
def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => after m c
  q _ := fullShare
  owed t := match t with
    | ⟨0, _⟩ => O₀ c
    | ⟨_ + 1, _⟩ => 0

/-- The body's start. -/
theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Ha, Hl⟩, -, ⟨HA, HB, ⟨%f, HC⟩⟩⟩
  ihave HC := (cs_split (F := F) c f) $$ HC
  isplitl [Hs]; · iexact Hs
  iapply (tools_eq m c).2
  isplitl [HA HB HC]
  · isplitl [HA]; · iexact HA
    isplitl [HB]; · iexact HB
    iexact HC
  isplitl [Ha]; · iexact Ha
  iexact Hl

set_option maxRecDepth 100000 in
/-- Its end. -/
theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = after m c from rfl, scopedRest0_eq]
  unfold after Y stepB done
  simp only [bigSep_sep']
  iintro ⟨⟨-, S0⟩, ⟨-, S1⟩, ⟨Ho, S2⟩, ⟨Hox, S3⟩, Sf, St, Ht⟩
  ihave Ht := (tools_eq m c).1 $$ Ht
  icases Ht with ⟨⟨HA, HB, HC⟩, Ha, Hl⟩
  ihave HC := (cs_join (F := F) c (fun _ => outF m c (fun a => ⟨0, by fin_cases a <;> decide⟩))) $$ HC
  ihave Hv := (Entails.of_eq (sems0_eq (F := F) c).symm) $$ [S0 S1 S2 S3 Sf St Hl]
  · isplitr [Hl]
    · rw [bigSep_cl]
      isplitl [S0 S1 S2 S3]
      · isplitl [S0]; · iexact S0
        isplitl [S1]; · iexact S1
        isplitl [S2]; · iexact S2
        iexact S3
      isplitl [Sf]; · iexact Sf
      iexact St
    iexact Hl
  icases Hv with ⟨Hos, Hus⟩
  isplitl [Hus Ha Ho Hox]
  · isplitl [Hus]; · iexact Hus
    isplitl [Ha]; · iexact Ha
    iapply (Entails.of_eq (om_split (F := F) c (outF m c)).symm)
    isplitl [Ho]; · iexact Ho
    iexact Hox
  isplitl [Hos]; · iexact Hos
  isplitl [HA]; · iexact HA
  isplitl [HB]; · iexact HB
  iexact HC

set_option maxRecDepth 100000 in
/-- The body takes the one to the other. -/
theorem body_obligation (c : Dev nD) : Pipeline.BodyObligation (dats (F := F) m 0 c) (defs₀ (F := F)) 𝒱₀ () Set.univ := fun t => by
  rw [fin_N0 t]
  show iprop((Φ₀ m c) ∗ (dats m 0 c).owesAt () t0_0.castSucc ∗ (bigSep (Finset.univ : Finset (Fin 0)) _ : sProp 𝕄)) ⊢ WP c (bodyAt0 (F := F) t0_0) fun _ =>
    iprop((after m c) ∗ (dats m 0 c).owesAt () t0_0.succ ∗ (bigSep (Finset.univ : Finset (Fin 0)) _ : sProp 𝕄))
  rw [body_eq]
  unfold Φ₀ WP
  rw [show (Prog.lift .deviceId >>= fun c => body c : KProg F) = .op .deviceId (fun c => body c) from rfl, wp_deviceId]
  iintro ⟨⟨⟨%K, Hs⟩, Ht⟩, ⟨%W, Hw, Ho⟩, -⟩
  iapply (body_wp m K c _)
  unfold bodyPre bodyPost owesX
  isplitl [Hs Ht Ho]
  · isplitl [Hs]; · iexact Hs
    icases Ht with ⟨H1, H2, H3⟩
    isplitl [H1]; · iexact H1
    isplitl [H2]; · iexact H2
    isplitl [H3]; · iexact H3
    iexists W
    iexact Ho
  iintro ⟨Ha, ⟨%W', Ho⟩⟩
  isplitl [Ha]; · iexact Ha
  isplitl [Ho]
  · iexists W'
    isplitr
    · ipureintro; exact fun _ _ => Or.inl trivial
    iexact Ho
  · iempintro

/-! ## The run -/

/-- What is read of the last state. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_v1_0) = outF m c

/-- It is so. -/
theorem read_end (c : Dev nD) (s' : Phys nD τ sig (Elt F)) :
    iprop(Y m c ∗ emp ∗ SI s') ⊢ |={Set.univ}=> iprop(⌜QY m c s'.mem⌝ ∗ SI s' : sProp 𝕄) := by
  unfold Y argR
  iintro ⟨⟨Hu, Ha, Ho⟩, -, HSI⟩
  ihave %ha := SI_pointsTo_agree $$ [HSI Ha]
  · isplitl [HSI] <;> iassumption
  ihave %ho := SI_pointsTo_agree $$ [HSI Ho]
  · isplitl [HSI] <;> iassumption
  imod (Pipeline.unscopedSems0_read (X := unscopedSems0 c) (c := c) fupd_intro s') $$ [Hu HSI] with ⟨%hu, HSI⟩
  · isplitl [Hu] <;> iassumption
  imodintro
  isplitr
  · ipureintro
    exact ⟨hu, funext fun i => ha i (Finset.mem_univ i), funext fun i => ho i (Finset.mem_univ i)⟩
  iexact HSI

set_option maxRecDepth 100000 in
/-- From any memory with zero counters, for any float values, every weakly fair execution of the four devices'
    program terminates; at the end every device's operand is as it was, its result is at the computed contents, and
    every semaphore counter is zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_v1_0) = outF m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c)) (hne := block_pos0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w _ _ => w.elim0)
    (G := G m) (G' := G' m) (u₀ := u₀)
    (hu₀ := by
      unfold u₀
      iintro Hu
      ihave H := (ownU_pair _ _) $$ Hu
      icases H with ⟨HP, HX⟩
      imod (fund_ring m) $$ [HX] with HG
      · iexact HX
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := QY m) (hY := read_end m)
    (hQ := fun _ h hs => ⟨fun c => (h c).2.2.2, sem_eq_zero hs fun c => (h c).2.2.1⟩)

end Cert.KernelIdeal.Pf

end
-- ==== Proof.Value.lean ====
/-
The value: over exact floats, the sums the devices compute are the blocks of the reference's sum.
-/
module

public import proofs.«01_k».proof.Proof.Views
public import proofs.«01_k».proof.Proof.Gen.ReferenceIdeal
public import Idealize.ShloMosaic.Lib.IdealHost
public import Idealize.ShloMosaic.Lib.Layout
public import Idealize.ShloMosaic.PureOps.Ideal.Laws

@[expose] public section

noncomputable section

namespace Cert.ReferenceIdeal.Pf

open Cert.ReferenceIdeal Cert.ReferenceIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

/-! ## The reference's sum -/

/-- An element of the whole operand. -/
abbrev at3 (X : S2x16384x2048.Idx → EReal) (b r q : ℕ) : EReal := X (ix3 (Fin.ofNat 2 b) (Fin.ofNat 16384 r) (Fin.ofNat 2048 q))

/-- The reduction drops the leading axis; -/
theorem red3 : S2x16384x2048.Reduces [0] S16384x2048 := by decide

/-- an index it sums over at a result's index. -/
theorem lift_eq (j : S16384x2048.Idx) (b : Fin 2) :
    (red3.lift j b : S2x16384x2048.Idx) = ix3 (Fin.ofNat 2 b.val) (Fin.ofNat 16384 (j 0).val) (Fin.ofNat 2048 (j 1).val) := by
  have h0 : (j 0).val < 16384 := (j 0).isLt
  have h1 : (j 1).val < 2048 := (j 1).isLt
  funext a
  match a with
  | ⟨0, _⟩ => exact Fin.ext (Nat.mod_eq_of_lt b.isLt).symm
  | ⟨1, _⟩ => exact Fin.ext (Nat.mod_eq_of_lt h0).symm
  | ⟨2, _⟩ => exact Fin.ext (Nat.mod_eq_of_lt h1).symm

/-- The reference's result at an index is the sum of the operand's two layers there. -/
theorem ref_apply (X : S2x16384x2048.Idx → EReal) (j : S16384x2048.Idx) :
    (Host.reduceAdd (F := Ideal) (φ := .f32) X (constant S_ .f32 0x00000000#32) reducesTo_S2x16384x2048_S16384x2048_d0 h_S_ : S16384x2048.Idx → EReal) j
      = at3 X 0 (j 0).val (j 1).val + at3 X 1 (j 0).val (j 1).val := by
  rw [hostReduceAdd_apply, Ideal.hostReduceAdd_single _ red3]
  rw [show ((constant (F := Ideal) S_ .f32 0x00000000#32) (Shape.Idx.first h_S_) : EReal) = 0 from Ideal.ofBits_zero_f32, zero_add]
  refine (Fin.sum_univ_two (M := EReal) fun b : Fin 2 => X (red3.lift j b)).trans ?_
  rw [lift_eq, lift_eq]
  rfl

/-! ## The kernel's result -/

open Cert.KernelIdeal.Pf in
/-- An element of a device's operand is one of the whole operand: the layer of its column of the mesh. -/
theorem xAt_eq (m : (ℓ : Loc KernelIdeal.nD KernelIdeal.τ KernelIdeal.sig) → Buf (Elt Ideal) ℓ) (X : S2x16384x2048.Idx → EReal)
    (hm : ∀ c : Dev KernelIdeal.nD, m ((c.tc : Thread KernelIdeal.nD KernelIdeal.τ).loc KernelIdeal.main_arg0)
      = Layout.blockN ⟨3, ![1, 16384, 2048]⟩ ⟨3, ![2, 16384, 2048]⟩ (Layout.meshBlock [2, 2] ![[1], [], []] c) X)
    (c : Dev KernelIdeal.nD) (r q : ℕ) : (xAt m c r q : EReal) = at3 X (c.val % 2) r q := by
  have hr := Nat.mod_lt r (show 0 < 16384 by decide)
  have hq := Nat.mod_lt q (show 0 < 2048 by decide)
  unfold xAt xin
  rw [hm, Layout.blockN_apply]
  refine congrArg X (funext fun a => ?_)
  match a with
  | ⟨0, _⟩ =>
    refine Fin.ext ?_
    rw [Layout.TilesN.idx_val]
    show (c.val / 1 % 2 * 1 + 0) * 1 + 0 = c.val % 2 % 2
    omega
  | ⟨1, _⟩ =>
    refine Fin.ext ?_
    rw [Layout.TilesN.idx_val]
    show 0 * 16384 + r % 16384 = r % 16384
    omega
  | ⟨2, _⟩ =>
    refine Fin.ext ?_
    rw [Layout.TilesN.idx_val]
    show 0 * 2048 + q % 2048 = q % 2048
    omega

open Cert.KernelIdeal.Pf in
/-- Every device's result is its block of the reference's. -/
theorem out_eq (m : (ℓ : Loc KernelIdeal.nD KernelIdeal.τ KernelIdeal.sig) → Buf (Elt Ideal) ℓ) (X : S2x16384x2048.Idx → EReal)
    (hm : ∀ c : Dev KernelIdeal.nD, m ((c.tc : Thread KernelIdeal.nD KernelIdeal.τ).loc KernelIdeal.main_arg0)
      = Layout.blockN ⟨3, ![1, 16384, 2048]⟩ ⟨3, ![2, 16384, 2048]⟩ (Layout.meshBlock [2, 2] ![[1], [], []] c) X)
    (c : Dev KernelIdeal.nD) :
    outF m c = Layout.blockN ⟨2, ![16384, 1024]⟩ ⟨2, ![16384, 2048]⟩ (Layout.meshBlock [2, 2] ![[], [1]] c)
      (Host.reduceAdd (F := Ideal) (φ := .f32) X (constant S_ .f32 0x00000000#32) reducesTo_S2x16384x2048_S16384x2048_d0 h_S_ : S16384x2048.Idx → EReal) := by
  funext i
  rw [Layout.blockN_apply, ref_apply, Layout.TilesN.idx_val, Layout.TilesN.idx_val]
  have hown : (owner c (i 0).val).val % 2 = c.val % 2 := by
    unfold owner; split
    · rfl
    · exact xp_mod c
  show (xAt m (owner c (i 0).val) (i 0).val (1024 * (c.val % 2) + (i 1).val) : EReal) + xAt m (yp (owner c (i 0).val)) (i 0).val (1024 * (c.val % 2) + (i 1).val)
    = at3 X 0 (0 * 16384 + (i 0).val) ((c.val / 1 % 2 * 1 + 0) * 1024 + (i 1).val) + at3 X 1 (0 * 16384 + (i 0).val) ((c.val / 1 % 2 * 1 + 0) * 1024 + (i 1).val)
  rw [xAt_eq m X hm, xAt_eq m X hm, yp_mod, hown, show 0 * 16384 + (i 0).val = (i 0).val by omega,
    show (c.val / 1 % 2 * 1 + 0) * 1024 + (i 1).val = 1024 * (c.val % 2) + (i 1).val by omega]
  rcases Nat.mod_two_eq_zero_or_one c.val with h | h
  · rw [h]
  · rw [h]; exact add_comm _ _

end Cert.ReferenceIdeal.Pf

end
-- ==== Proof.lean ====
/- The proof of the certificate's claim: the two programs' runs, the reference's run and the value bridge put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Bits.Run
public import proofs.«01_k».proof.Proof.Value
public import Idealize.ShloMosaic.Adequacy
public import Idealize.ShloMosaic.Init

@[expose] public section

noncomputable section

namespace Cert.Proof

open Idealize.ShloMosaic Idealize.SL.Sem

/-- The program's frame: its argument unchanged, every counter zero. -/
theorem frame_Kernel : Cert.quiescent_Kernel (hKernel := Cert.Kernel.Gen.facts) := fun m g _ =>
  (θ_run _ _ _).mono (fun _ h => ⟨fun c => (h.1 c).1, h.2⟩) (Cert.Kernel.Pf.run_main (F := Bits) m g)

/-- The idealization's frame. -/
theorem frame_KernelIdeal : Cert.quiescent_KernelIdeal (hKernelIdeal := Cert.KernelIdeal.Gen.facts) := fun m g _ =>
  (θ_run _ _ _).mono (fun _ h => ⟨fun c => (h.1 c).1, h.2⟩) (Cert.KernelIdeal.Pf.run_main (F := Ideal) m g)

/-- The reference's frame: it has no semaphore. -/
theorem frame_ReferenceIdeal : Cert.quiescent_ReferenceIdeal (hReferenceIdeal := Cert.ReferenceIdeal.Gen.facts) := fun m g _ =>
  (θ_run _ _ _).mono (fun _ h => ⟨fun c => (h c).2, sem_eq_zero_of_no_sems rfl _⟩) (Cert.ReferenceIdeal.Value.run (F := Ideal) m g)

/-- The value: every device's result is its block of the reference's. -/
theorem value : Cert.algebraic_KernelIdeal_ReferenceIdeal (hKernelIdeal := Cert.KernelIdeal.Gen.facts) (hReferenceIdeal := Cert.ReferenceIdeal.Gen.facts) :=
  fun m g m' g' _ hm =>
    ⟨_, (θ_run _ _ _).mono (fun _ h c => ⟨(h.1 c).2.trans (Cert.ReferenceIdeal.Pf.out_eq m _ hm c), (h.1 c).1⟩)
        (Cert.KernelIdeal.Pf.run_main (F := Ideal) m g),
      (θ_run _ _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_Kernel, frame_KernelIdeal, frame_ReferenceIdeal, trivial, value⟩

end Cert.Proof

end
